-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S2x1024 : Shape := ⟨2, ![2, 1024]⟩
abbrev S32x2x1024 : Shape := ⟨3, ![32, 2, 1024]⟩
abbrev S32 : Shape := ⟨1, ![32]⟩
abbrev S_ : Shape := ⟨0, ![]⟩
abbrev S1024 : Shape := ⟨1, ![1024]⟩
abbrev S1x1024 : Shape := ⟨2, ![1, 1024]⟩
abbrev S1x1x1024 : Shape := ⟨3, ![1, 1, 1024]⟩
abbrev S1 : Shape := ⟨1, ![1]⟩
abbrev S1x2x1024 : Shape := ⟨3, ![1, 2, 1024]⟩
abbrev S32x1x1024 : Shape := ⟨3, ![32, 1, 1024]⟩
abbrev S32x1024 : Shape := ⟨2, ![32, 1024]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2x1024, .f32⟩
  | .local _ .vmem, ⟨0, _⟩ => ⟨S2048x1024, .f32⟩
  | .local _ .vmem, ⟨1, _⟩ => ⟨S2x1024, .f32⟩
  | .local _ .vmem, ⟨2, _⟩ => ⟨S32x2x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v420 : Index := Scalar.indexCast v2
  let c0_282 : Index := 0#32
  let c0_283 : Index := 0#32
  ![v420.toNat, 0, 0]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v425 : Index := Scalar.indexCast v2
  let c1 : Index := 1#32
  let c0_284 : Index := 0#32
  ![v425.toNat, 1, 0]
def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_296 : BitVec 32 := 0#32
  let c0_i32_297 : BitVec 32 := 0#32
  ![v2.toNat, 0, 0]
def k0_dev32 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_286 : BitVec 32 := 1#32
  let v429 : BitVec 32 := Scalar.subi v2 c1_i32_286
  let c32_i32_287 : BitVec 32 := 32#32
  let c0_i32_288 : BitVec 32 := 0#32
  let v430 : BitVec 1 := Scalar.cmpi .eq c32_i32_287 c0_i32_288
  let c1_i32_289 : BitVec 32 := 1#32
  let v431 : BitVec 32 := Scalar.select v430 c1_i32_289 c32_i32_287
  let v432 : BitVec 32 := Scalar.remsi v429 v431
  let c0_i32_291 : BitVec 32 := 0#32
  let v434 : BitVec 1 := Scalar.cmpi .slt v432 c0_i32_291
  let c0_i32_292 : BitVec 32 := 0#32
  let v435 : BitVec 1 := Scalar.cmpi .slt v431 c0_i32_292
  let v436 : BitVec 1 := Scalar.xori v434 v435
  let c0_i32_290 : BitVec 32 := 0#32
  let v433 : BitVec 1 := Scalar.cmpi .ne v432 c0_i32_290
  let v437 : BitVec 1 := Scalar.andi v436 v433
  let v438 : BitVec 32 := Scalar.addi v432 v431
  let v439 : BitVec 32 := Scalar.select v437 v438 v432
  let c1_i32_294 : BitVec 32 := 1#32
  let v440 : BitVec 32 := Scalar.muli v439 c1_i32_294
  let v441 : BitVec 32 := Scalar.addi c0_i32_295 v440
  v441.toNat
def k0_dev33 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_300 : BitVec 32 := 2#32
  let v450 : BitVec 32 := Scalar.subi v2 c2_i32_300
  let c32_i32_301 : BitVec 32 := 32#32
  let c0_i32_302 : BitVec 32 := 0#32
  let v451 : BitVec 1 := Scalar.cmpi .eq c32_i32_301 c0_i32_302
  let c1_i32_303 : BitVec 32 := 1#32
  let v452 : BitVec 32 := Scalar.select v451 c1_i32_303 c32_i32_301
  let v453 : BitVec 32 := Scalar.remsi v450 v452
  let c0_i32_305 : BitVec 32 := 0#32
  let v455 : BitVec 1 := Scalar.cmpi .slt v453 c0_i32_305
  let c0_i32_306 : BitVec 32 := 0#32
  let v456 : BitVec 1 := Scalar.cmpi .slt v452 c0_i32_306
  let v457 : BitVec 1 := Scalar.xori v455 v456
  let c0_i32_304 : BitVec 32 := 0#32
  let v454 : BitVec 1 := Scalar.cmpi .ne v453 c0_i32_304
  let v458 : BitVec 1 := Scalar.andi v457 v454
  let v459 : BitVec 32 := Scalar.addi v453 v452
  let v460 : BitVec 32 := Scalar.select v458 v459 v453
  let c1_i32_308 : BitVec 32 := 1#32
  let v461 : BitVec 32 := Scalar.muli v460 c1_i32_308
  let v462 : BitVec 32 := Scalar.addi c0_i32_309 v461
  v462.toNat
def k0_dev34 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_314 : BitVec 32 := 3#32
  let v471 : BitVec 32 := Scalar.subi v2 c3_i32_314
  let c32_i32_315 : BitVec 32 := 32#32
  let c0_i32_316 : BitVec 32 := 0#32
  let v472 : BitVec 1 := Scalar.cmpi .eq c32_i32_315 c0_i32_316
  let c1_i32_317 : BitVec 32 := 1#32
  let v473 : BitVec 32 := Scalar.select v472 c1_i32_317 c32_i32_315
  let v474 : BitVec 32 := Scalar.remsi v471 v473
  let c0_i32_319 : BitVec 32 := 0#32
  let v476 : BitVec 1 := Scalar.cmpi .slt v474 c0_i32_319
  let c0_i32_320 : BitVec 32 := 0#32
  let v477 : BitVec 1 := Scalar.cmpi .slt v473 c0_i32_320
  let v478 : BitVec 1 := Scalar.xori v476 v477
  let c0_i32_318 : BitVec 32 := 0#32
  let v475 : BitVec 1 := Scalar.cmpi .ne v474 c0_i32_318
  let v479 : BitVec 1 := Scalar.andi v478 v475
  let v480 : BitVec 32 := Scalar.addi v474 v473
  let v481 : BitVec 32 := Scalar.select v479 v480 v474
  let c1_i32_322 : BitVec 32 := 1#32
  let v482 : BitVec 32 := Scalar.muli v481 c1_i32_322
  let v483 : BitVec 32 := Scalar.addi c0_i32_323 v482
  v483.toNat
def k0_dev35 (d0 : Dev nD) : Nat :=
  let c0_i32_337 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_328 : BitVec 32 := 4#32
  let v492 : BitVec 32 := Scalar.subi v2 c4_i32_328
  let c32_i32_329 : BitVec 32 := 32#32
  let c0_i32_330 : BitVec 32 := 0#32
  let v493 : BitVec 1 := Scalar.cmpi .eq c32_i32_329 c0_i32_330
  let c1_i32_331 : BitVec 32 := 1#32
  let v494 : BitVec 32 := Scalar.select v493 c1_i32_331 c32_i32_329
  let v495 : BitVec 32 := Scalar.remsi v492 v494
  let c0_i32_333 : BitVec 32 := 0#32
  let v497 : BitVec 1 := Scalar.cmpi .slt v495 c0_i32_333
  let c0_i32_334 : BitVec 32 := 0#32
  let v498 : BitVec 1 := Scalar.cmpi .slt v494 c0_i32_334
  let v499 : BitVec 1 := Scalar.xori v497 v498
  let c0_i32_332 : BitVec 32 := 0#32
  let v496 : BitVec 1 := Scalar.cmpi .ne v495 c0_i32_332
  let v500 : BitVec 1 := Scalar.andi v499 v496
  let v501 : BitVec 32 := Scalar.addi v495 v494
  let v502 : BitVec 32 := Scalar.select v500 v501 v495
  let c1_i32_336 : BitVec 32 := 1#32
  let v503 : BitVec 32 := Scalar.muli v502 c1_i32_336
  let v504 : BitVec 32 := Scalar.addi c0_i32_337 v503
  v504.toNat
def k0_dev36 (d0 : Dev nD) : Nat :=
  let c0_i32_351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_342 : BitVec 32 := 5#32
  let v513 : BitVec 32 := Scalar.subi v2 c5_i32_342
  let c32_i32_343 : BitVec 32 := 32#32
  let c0_i32_344 : BitVec 32 := 0#32
  let v514 : BitVec 1 := Scalar.cmpi .eq c32_i32_343 c0_i32_344
  let c1_i32_345 : BitVec 32 := 1#32
  let v515 : BitVec 32 := Scalar.select v514 c1_i32_345 c32_i32_343
  let v516 : BitVec 32 := Scalar.remsi v513 v515
  let c0_i32_347 : BitVec 32 := 0#32
  let v518 : BitVec 1 := Scalar.cmpi .slt v516 c0_i32_347
  let c0_i32_348 : BitVec 32 := 0#32
  let v519 : BitVec 1 := Scalar.cmpi .slt v515 c0_i32_348
  let v520 : BitVec 1 := Scalar.xori v518 v519
  let c0_i32_346 : BitVec 32 := 0#32
  let v517 : BitVec 1 := Scalar.cmpi .ne v516 c0_i32_346
  let v521 : BitVec 1 := Scalar.andi v520 v517
  let v522 : BitVec 32 := Scalar.addi v516 v515
  let v523 : BitVec 32 := Scalar.select v521 v522 v516
  let c1_i32_350 : BitVec 32 := 1#32
  let v524 : BitVec 32 := Scalar.muli v523 c1_i32_350
  let v525 : BitVec 32 := Scalar.addi c0_i32_351 v524
  v525.toNat
def k0_dev37 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_356 : BitVec 32 := 6#32
  let v534 : BitVec 32 := Scalar.subi v2 c6_i32_356
  let c32_i32_357 : BitVec 32 := 32#32
  let c0_i32_358 : BitVec 32 := 0#32
  let v535 : BitVec 1 := Scalar.cmpi .eq c32_i32_357 c0_i32_358
  let c1_i32_359 : BitVec 32 := 1#32
  let v536 : BitVec 32 := Scalar.select v535 c1_i32_359 c32_i32_357
  let v537 : BitVec 32 := Scalar.remsi v534 v536
  let c0_i32_361 : BitVec 32 := 0#32
  let v539 : BitVec 1 := Scalar.cmpi .slt v537 c0_i32_361
  let c0_i32_362 : BitVec 32 := 0#32
  let v540 : BitVec 1 := Scalar.cmpi .slt v536 c0_i32_362
  let v541 : BitVec 1 := Scalar.xori v539 v540
  let c0_i32_360 : BitVec 32 := 0#32
  let v538 : BitVec 1 := Scalar.cmpi .ne v537 c0_i32_360
  let v542 : BitVec 1 := Scalar.andi v541 v538
  let v543 : BitVec 32 := Scalar.addi v537 v536
  let v544 : BitVec 32 := Scalar.select v542 v543 v537
  let c1_i32_364 : BitVec 32 := 1#32
  let v545 : BitVec 32 := Scalar.muli v544 c1_i32_364
  let v546 : BitVec 32 := Scalar.addi c0_i32_365 v545
  v546.toNat
def k0_dev38 (d0 : Dev nD) : Nat :=
  let c0_i32_379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_370 : BitVec 32 := 7#32
  let v555 : BitVec 32 := Scalar.subi v2 c7_i32_370
  let c32_i32_371 : BitVec 32 := 32#32
  let c0_i32_372 : BitVec 32 := 0#32
  let v556 : BitVec 1 := Scalar.cmpi .eq c32_i32_371 c0_i32_372
  let c1_i32_373 : BitVec 32 := 1#32
  let v557 : BitVec 32 := Scalar.select v556 c1_i32_373 c32_i32_371
  let v558 : BitVec 32 := Scalar.remsi v555 v557
  let c0_i32_375 : BitVec 32 := 0#32
  let v560 : BitVec 1 := Scalar.cmpi .slt v558 c0_i32_375
  let c0_i32_376 : BitVec 32 := 0#32
  let v561 : BitVec 1 := Scalar.cmpi .slt v557 c0_i32_376
  let v562 : BitVec 1 := Scalar.xori v560 v561
  let c0_i32_374 : BitVec 32 := 0#32
  let v559 : BitVec 1 := Scalar.cmpi .ne v558 c0_i32_374
  let v563 : BitVec 1 := Scalar.andi v562 v559
  let v564 : BitVec 32 := Scalar.addi v558 v557
  let v565 : BitVec 32 := Scalar.select v563 v564 v558
  let c1_i32_378 : BitVec 32 := 1#32
  let v566 : BitVec 32 := Scalar.muli v565 c1_i32_378
  let v567 : BitVec 32 := Scalar.addi c0_i32_379 v566
  v567.toNat
def k0_dev39 (d0 : Dev nD) : Nat :=
  let c0_i32_393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_384 : BitVec 32 := 8#32
  let v576 : BitVec 32 := Scalar.subi v2 c8_i32_384
  let c32_i32_385 : BitVec 32 := 32#32
  let c0_i32_386 : BitVec 32 := 0#32
  let v577 : BitVec 1 := Scalar.cmpi .eq c32_i32_385 c0_i32_386
  let c1_i32_387 : BitVec 32 := 1#32
  let v578 : BitVec 32 := Scalar.select v577 c1_i32_387 c32_i32_385
  let v579 : BitVec 32 := Scalar.remsi v576 v578
  let c0_i32_389 : BitVec 32 := 0#32
  let v581 : BitVec 1 := Scalar.cmpi .slt v579 c0_i32_389
  let c0_i32_390 : BitVec 32 := 0#32
  let v582 : BitVec 1 := Scalar.cmpi .slt v578 c0_i32_390
  let v583 : BitVec 1 := Scalar.xori v581 v582
  let c0_i32_388 : BitVec 32 := 0#32
  let v580 : BitVec 1 := Scalar.cmpi .ne v579 c0_i32_388
  let v584 : BitVec 1 := Scalar.andi v583 v580
  let v585 : BitVec 32 := Scalar.addi v579 v578
  let v586 : BitVec 32 := Scalar.select v584 v585 v579
  let c1_i32_392 : BitVec 32 := 1#32
  let v587 : BitVec 32 := Scalar.muli v586 c1_i32_392
  let v588 : BitVec 32 := Scalar.addi c0_i32_393 v587
  v588.toNat
def k0_dev40 (d0 : Dev nD) : Nat :=
  let c0_i32_407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_398 : BitVec 32 := 9#32
  let v597 : BitVec 32 := Scalar.subi v2 c9_i32_398
  let c32_i32_399 : BitVec 32 := 32#32
  let c0_i32_400 : BitVec 32 := 0#32
  let v598 : BitVec 1 := Scalar.cmpi .eq c32_i32_399 c0_i32_400
  let c1_i32_401 : BitVec 32 := 1#32
  let v599 : BitVec 32 := Scalar.select v598 c1_i32_401 c32_i32_399
  let v600 : BitVec 32 := Scalar.remsi v597 v599
  let c0_i32_403 : BitVec 32 := 0#32
  let v602 : BitVec 1 := Scalar.cmpi .slt v600 c0_i32_403
  let c0_i32_404 : BitVec 32 := 0#32
  let v603 : BitVec 1 := Scalar.cmpi .slt v599 c0_i32_404
  let v604 : BitVec 1 := Scalar.xori v602 v603
  let c0_i32_402 : BitVec 32 := 0#32
  let v601 : BitVec 1 := Scalar.cmpi .ne v600 c0_i32_402
  let v605 : BitVec 1 := Scalar.andi v604 v601
  let v606 : BitVec 32 := Scalar.addi v600 v599
  let v607 : BitVec 32 := Scalar.select v605 v606 v600
  let c1_i32_406 : BitVec 32 := 1#32
  let v608 : BitVec 32 := Scalar.muli v607 c1_i32_406
  let v609 : BitVec 32 := Scalar.addi c0_i32_407 v608
  v609.toNat
def k0_dev41 (d0 : Dev nD) : Nat :=
  let c0_i32_421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_412 : BitVec 32 := 10#32
  let v618 : BitVec 32 := Scalar.subi v2 c10_i32_412
  let c32_i32_413 : BitVec 32 := 32#32
  let c0_i32_414 : BitVec 32 := 0#32
  let v619 : BitVec 1 := Scalar.cmpi .eq c32_i32_413 c0_i32_414
  let c1_i32_415 : BitVec 32 := 1#32
  let v620 : BitVec 32 := Scalar.select v619 c1_i32_415 c32_i32_413
  let v621 : BitVec 32 := Scalar.remsi v618 v620
  let c0_i32_417 : BitVec 32 := 0#32
  let v623 : BitVec 1 := Scalar.cmpi .slt v621 c0_i32_417
  let c0_i32_418 : BitVec 32 := 0#32
  let v624 : BitVec 1 := Scalar.cmpi .slt v620 c0_i32_418
  let v625 : BitVec 1 := Scalar.xori v623 v624
  let c0_i32_416 : BitVec 32 := 0#32
  let v622 : BitVec 1 := Scalar.cmpi .ne v621 c0_i32_416
  let v626 : BitVec 1 := Scalar.andi v625 v622
  let v627 : BitVec 32 := Scalar.addi v621 v620
  let v628 : BitVec 32 := Scalar.select v626 v627 v621
  let c1_i32_420 : BitVec 32 := 1#32
  let v629 : BitVec 32 := Scalar.muli v628 c1_i32_420
  let v630 : BitVec 32 := Scalar.addi c0_i32_421 v629
  v630.toNat
def k0_dev42 (d0 : Dev nD) : Nat :=
  let c0_i32_435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_426 : BitVec 32 := 11#32
  let v639 : BitVec 32 := Scalar.subi v2 c11_i32_426
  let c32_i32_427 : BitVec 32 := 32#32
  let c0_i32_428 : BitVec 32 := 0#32
  let v640 : BitVec 1 := Scalar.cmpi .eq c32_i32_427 c0_i32_428
  let c1_i32_429 : BitVec 32 := 1#32
  let v641 : BitVec 32 := Scalar.select v640 c1_i32_429 c32_i32_427
  let v642 : BitVec 32 := Scalar.remsi v639 v641
  let c0_i32_431 : BitVec 32 := 0#32
  let v644 : BitVec 1 := Scalar.cmpi .slt v642 c0_i32_431
  let c0_i32_432 : BitVec 32 := 0#32
  let v645 : BitVec 1 := Scalar.cmpi .slt v641 c0_i32_432
  let v646 : BitVec 1 := Scalar.xori v644 v645
  let c0_i32_430 : BitVec 32 := 0#32
  let v643 : BitVec 1 := Scalar.cmpi .ne v642 c0_i32_430
  let v647 : BitVec 1 := Scalar.andi v646 v643
  let v648 : BitVec 32 := Scalar.addi v642 v641
  let v649 : BitVec 32 := Scalar.select v647 v648 v642
  let c1_i32_434 : BitVec 32 := 1#32
  let v650 : BitVec 32 := Scalar.muli v649 c1_i32_434
  let v651 : BitVec 32 := Scalar.addi c0_i32_435 v650
  v651.toNat
def k0_dev43 (d0 : Dev nD) : Nat :=
  let c0_i32_449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_440 : BitVec 32 := 12#32
  let v660 : BitVec 32 := Scalar.subi v2 c12_i32_440
  let c32_i32_441 : BitVec 32 := 32#32
  let c0_i32_442 : BitVec 32 := 0#32
  let v661 : BitVec 1 := Scalar.cmpi .eq c32_i32_441 c0_i32_442
  let c1_i32_443 : BitVec 32 := 1#32
  let v662 : BitVec 32 := Scalar.select v661 c1_i32_443 c32_i32_441
  let v663 : BitVec 32 := Scalar.remsi v660 v662
  let c0_i32_445 : BitVec 32 := 0#32
  let v665 : BitVec 1 := Scalar.cmpi .slt v663 c0_i32_445
  let c0_i32_446 : BitVec 32 := 0#32
  let v666 : BitVec 1 := Scalar.cmpi .slt v662 c0_i32_446
  let v667 : BitVec 1 := Scalar.xori v665 v666
  let c0_i32_444 : BitVec 32 := 0#32
  let v664 : BitVec 1 := Scalar.cmpi .ne v663 c0_i32_444
  let v668 : BitVec 1 := Scalar.andi v667 v664
  let v669 : BitVec 32 := Scalar.addi v663 v662
  let v670 : BitVec 32 := Scalar.select v668 v669 v663
  let c1_i32_448 : BitVec 32 := 1#32
  let v671 : BitVec 32 := Scalar.muli v670 c1_i32_448
  let v672 : BitVec 32 := Scalar.addi c0_i32_449 v671
  v672.toNat
def k0_dev44 (d0 : Dev nD) : Nat :=
  let c0_i32_463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_454 : BitVec 32 := 13#32
  let v681 : BitVec 32 := Scalar.subi v2 c13_i32_454
  let c32_i32_455 : BitVec 32 := 32#32
  let c0_i32_456 : BitVec 32 := 0#32
  let v682 : BitVec 1 := Scalar.cmpi .eq c32_i32_455 c0_i32_456
  let c1_i32_457 : BitVec 32 := 1#32
  let v683 : BitVec 32 := Scalar.select v682 c1_i32_457 c32_i32_455
  let v684 : BitVec 32 := Scalar.remsi v681 v683
  let c0_i32_459 : BitVec 32 := 0#32
  let v686 : BitVec 1 := Scalar.cmpi .slt v684 c0_i32_459
  let c0_i32_460 : BitVec 32 := 0#32
  let v687 : BitVec 1 := Scalar.cmpi .slt v683 c0_i32_460
  let v688 : BitVec 1 := Scalar.xori v686 v687
  let c0_i32_458 : BitVec 32 := 0#32
  let v685 : BitVec 1 := Scalar.cmpi .ne v684 c0_i32_458
  let v689 : BitVec 1 := Scalar.andi v688 v685
  let v690 : BitVec 32 := Scalar.addi v684 v683
  let v691 : BitVec 32 := Scalar.select v689 v690 v684
  let c1_i32_462 : BitVec 32 := 1#32
  let v692 : BitVec 32 := Scalar.muli v691 c1_i32_462
  let v693 : BitVec 32 := Scalar.addi c0_i32_463 v692
  v693.toNat
def k0_dev45 (d0 : Dev nD) : Nat :=
  let c0_i32_477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_468 : BitVec 32 := 14#32
  let v702 : BitVec 32 := Scalar.subi v2 c14_i32_468
  let c32_i32_469 : BitVec 32 := 32#32
  let c0_i32_470 : BitVec 32 := 0#32
  let v703 : BitVec 1 := Scalar.cmpi .eq c32_i32_469 c0_i32_470
  let c1_i32_471 : BitVec 32 := 1#32
  let v704 : BitVec 32 := Scalar.select v703 c1_i32_471 c32_i32_469
  let v705 : BitVec 32 := Scalar.remsi v702 v704
  let c0_i32_473 : BitVec 32 := 0#32
  let v707 : BitVec 1 := Scalar.cmpi .slt v705 c0_i32_473
  let c0_i32_474 : BitVec 32 := 0#32
  let v708 : BitVec 1 := Scalar.cmpi .slt v704 c0_i32_474
  let v709 : BitVec 1 := Scalar.xori v707 v708
  let c0_i32_472 : BitVec 32 := 0#32
  let v706 : BitVec 1 := Scalar.cmpi .ne v705 c0_i32_472
  let v710 : BitVec 1 := Scalar.andi v709 v706
  let v711 : BitVec 32 := Scalar.addi v705 v704
  let v712 : BitVec 32 := Scalar.select v710 v711 v705
  let c1_i32_476 : BitVec 32 := 1#32
  let v713 : BitVec 32 := Scalar.muli v712 c1_i32_476
  let v714 : BitVec 32 := Scalar.addi c0_i32_477 v713
  v714.toNat
def k0_dev46 (d0 : Dev nD) : Nat :=
  let c0_i32_491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_482 : BitVec 32 := 15#32
  let v723 : BitVec 32 := Scalar.subi v2 c15_i32_482
  let c32_i32_483 : BitVec 32 := 32#32
  let c0_i32_484 : BitVec 32 := 0#32
  let v724 : BitVec 1 := Scalar.cmpi .eq c32_i32_483 c0_i32_484
  let c1_i32_485 : BitVec 32 := 1#32
  let v725 : BitVec 32 := Scalar.select v724 c1_i32_485 c32_i32_483
  let v726 : BitVec 32 := Scalar.remsi v723 v725
  let c0_i32_487 : BitVec 32 := 0#32
  let v728 : BitVec 1 := Scalar.cmpi .slt v726 c0_i32_487
  let c0_i32_488 : BitVec 32 := 0#32
  let v729 : BitVec 1 := Scalar.cmpi .slt v725 c0_i32_488
  let v730 : BitVec 1 := Scalar.xori v728 v729
  let c0_i32_486 : BitVec 32 := 0#32
  let v727 : BitVec 1 := Scalar.cmpi .ne v726 c0_i32_486
  let v731 : BitVec 1 := Scalar.andi v730 v727
  let v732 : BitVec 32 := Scalar.addi v726 v725
  let v733 : BitVec 32 := Scalar.select v731 v732 v726
  let c1_i32_490 : BitVec 32 := 1#32
  let v734 : BitVec 32 := Scalar.muli v733 c1_i32_490
  let v735 : BitVec 32 := Scalar.addi c0_i32_491 v734
  v735.toNat
def k0_dev47 (d0 : Dev nD) : Nat :=
  let c0_i32_505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_496 : BitVec 32 := 16#32
  let v744 : BitVec 32 := Scalar.subi v2 c16_i32_496
  let c32_i32_497 : BitVec 32 := 32#32
  let c0_i32_498 : BitVec 32 := 0#32
  let v745 : BitVec 1 := Scalar.cmpi .eq c32_i32_497 c0_i32_498
  let c1_i32_499 : BitVec 32 := 1#32
  let v746 : BitVec 32 := Scalar.select v745 c1_i32_499 c32_i32_497
  let v747 : BitVec 32 := Scalar.remsi v744 v746
  let c0_i32_501 : BitVec 32 := 0#32
  let v749 : BitVec 1 := Scalar.cmpi .slt v747 c0_i32_501
  let c0_i32_502 : BitVec 32 := 0#32
  let v750 : BitVec 1 := Scalar.cmpi .slt v746 c0_i32_502
  let v751 : BitVec 1 := Scalar.xori v749 v750
  let c0_i32_500 : BitVec 32 := 0#32
  let v748 : BitVec 1 := Scalar.cmpi .ne v747 c0_i32_500
  let v752 : BitVec 1 := Scalar.andi v751 v748
  let v753 : BitVec 32 := Scalar.addi v747 v746
  let v754 : BitVec 32 := Scalar.select v752 v753 v747
  let c1_i32_504 : BitVec 32 := 1#32
  let v755 : BitVec 32 := Scalar.muli v754 c1_i32_504
  let v756 : BitVec 32 := Scalar.addi c0_i32_505 v755
  v756.toNat
def k0_dev48 (d0 : Dev nD) : Nat :=
  let c0_i32_519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_510 : BitVec 32 := 17#32
  let v765 : BitVec 32 := Scalar.subi v2 c17_i32_510
  let c32_i32_511 : BitVec 32 := 32#32
  let c0_i32_512 : BitVec 32 := 0#32
  let v766 : BitVec 1 := Scalar.cmpi .eq c32_i32_511 c0_i32_512
  let c1_i32_513 : BitVec 32 := 1#32
  let v767 : BitVec 32 := Scalar.select v766 c1_i32_513 c32_i32_511
  let v768 : BitVec 32 := Scalar.remsi v765 v767
  let c0_i32_515 : BitVec 32 := 0#32
  let v770 : BitVec 1 := Scalar.cmpi .slt v768 c0_i32_515
  let c0_i32_516 : BitVec 32 := 0#32
  let v771 : BitVec 1 := Scalar.cmpi .slt v767 c0_i32_516
  let v772 : BitVec 1 := Scalar.xori v770 v771
  let c0_i32_514 : BitVec 32 := 0#32
  let v769 : BitVec 1 := Scalar.cmpi .ne v768 c0_i32_514
  let v773 : BitVec 1 := Scalar.andi v772 v769
  let v774 : BitVec 32 := Scalar.addi v768 v767
  let v775 : BitVec 32 := Scalar.select v773 v774 v768
  let c1_i32_518 : BitVec 32 := 1#32
  let v776 : BitVec 32 := Scalar.muli v775 c1_i32_518
  let v777 : BitVec 32 := Scalar.addi c0_i32_519 v776
  v777.toNat
def k0_dev49 (d0 : Dev nD) : Nat :=
  let c0_i32_533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_524 : BitVec 32 := 18#32
  let v786 : BitVec 32 := Scalar.subi v2 c18_i32_524
  let c32_i32_525 : BitVec 32 := 32#32
  let c0_i32_526 : BitVec 32 := 0#32
  let v787 : BitVec 1 := Scalar.cmpi .eq c32_i32_525 c0_i32_526
  let c1_i32_527 : BitVec 32 := 1#32
  let v788 : BitVec 32 := Scalar.select v787 c1_i32_527 c32_i32_525
  let v789 : BitVec 32 := Scalar.remsi v786 v788
  let c0_i32_529 : BitVec 32 := 0#32
  let v791 : BitVec 1 := Scalar.cmpi .slt v789 c0_i32_529
  let c0_i32_530 : BitVec 32 := 0#32
  let v792 : BitVec 1 := Scalar.cmpi .slt v788 c0_i32_530
  let v793 : BitVec 1 := Scalar.xori v791 v792
  let c0_i32_528 : BitVec 32 := 0#32
  let v790 : BitVec 1 := Scalar.cmpi .ne v789 c0_i32_528
  let v794 : BitVec 1 := Scalar.andi v793 v790
  let v795 : BitVec 32 := Scalar.addi v789 v788
  let v796 : BitVec 32 := Scalar.select v794 v795 v789
  let c1_i32_532 : BitVec 32 := 1#32
  let v797 : BitVec 32 := Scalar.muli v796 c1_i32_532
  let v798 : BitVec 32 := Scalar.addi c0_i32_533 v797
  v798.toNat
def k0_dev50 (d0 : Dev nD) : Nat :=
  let c0_i32_547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_538 : BitVec 32 := 19#32
  let v807 : BitVec 32 := Scalar.subi v2 c19_i32_538
  let c32_i32_539 : BitVec 32 := 32#32
  let c0_i32_540 : BitVec 32 := 0#32
  let v808 : BitVec 1 := Scalar.cmpi .eq c32_i32_539 c0_i32_540
  let c1_i32_541 : BitVec 32 := 1#32
  let v809 : BitVec 32 := Scalar.select v808 c1_i32_541 c32_i32_539
  let v810 : BitVec 32 := Scalar.remsi v807 v809
  let c0_i32_543 : BitVec 32 := 0#32
  let v812 : BitVec 1 := Scalar.cmpi .slt v810 c0_i32_543
  let c0_i32_544 : BitVec 32 := 0#32
  let v813 : BitVec 1 := Scalar.cmpi .slt v809 c0_i32_544
  let v814 : BitVec 1 := Scalar.xori v812 v813
  let c0_i32_542 : BitVec 32 := 0#32
  let v811 : BitVec 1 := Scalar.cmpi .ne v810 c0_i32_542
  let v815 : BitVec 1 := Scalar.andi v814 v811
  let v816 : BitVec 32 := Scalar.addi v810 v809
  let v817 : BitVec 32 := Scalar.select v815 v816 v810
  let c1_i32_546 : BitVec 32 := 1#32
  let v818 : BitVec 32 := Scalar.muli v817 c1_i32_546
  let v819 : BitVec 32 := Scalar.addi c0_i32_547 v818
  v819.toNat
def k0_dev51 (d0 : Dev nD) : Nat :=
  let c0_i32_561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_552 : BitVec 32 := 20#32
  let v828 : BitVec 32 := Scalar.subi v2 c20_i32_552
  let c32_i32_553 : BitVec 32 := 32#32
  let c0_i32_554 : BitVec 32 := 0#32
  let v829 : BitVec 1 := Scalar.cmpi .eq c32_i32_553 c0_i32_554
  let c1_i32_555 : BitVec 32 := 1#32
  let v830 : BitVec 32 := Scalar.select v829 c1_i32_555 c32_i32_553
  let v831 : BitVec 32 := Scalar.remsi v828 v830
  let c0_i32_557 : BitVec 32 := 0#32
  let v833 : BitVec 1 := Scalar.cmpi .slt v831 c0_i32_557
  let c0_i32_558 : BitVec 32 := 0#32
  let v834 : BitVec 1 := Scalar.cmpi .slt v830 c0_i32_558
  let v835 : BitVec 1 := Scalar.xori v833 v834
  let c0_i32_556 : BitVec 32 := 0#32
  let v832 : BitVec 1 := Scalar.cmpi .ne v831 c0_i32_556
  let v836 : BitVec 1 := Scalar.andi v835 v832
  let v837 : BitVec 32 := Scalar.addi v831 v830
  let v838 : BitVec 32 := Scalar.select v836 v837 v831
  let c1_i32_560 : BitVec 32 := 1#32
  let v839 : BitVec 32 := Scalar.muli v838 c1_i32_560
  let v840 : BitVec 32 := Scalar.addi c0_i32_561 v839
  v840.toNat
def k0_dev52 (d0 : Dev nD) : Nat :=
  let c0_i32_575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_566 : BitVec 32 := 21#32
  let v849 : BitVec 32 := Scalar.subi v2 c21_i32_566
  let c32_i32_567 : BitVec 32 := 32#32
  let c0_i32_568 : BitVec 32 := 0#32
  let v850 : BitVec 1 := Scalar.cmpi .eq c32_i32_567 c0_i32_568
  let c1_i32_569 : BitVec 32 := 1#32
  let v851 : BitVec 32 := Scalar.select v850 c1_i32_569 c32_i32_567
  let v852 : BitVec 32 := Scalar.remsi v849 v851
  let c0_i32_571 : BitVec 32 := 0#32
  let v854 : BitVec 1 := Scalar.cmpi .slt v852 c0_i32_571
  let c0_i32_572 : BitVec 32 := 0#32
  let v855 : BitVec 1 := Scalar.cmpi .slt v851 c0_i32_572
  let v856 : BitVec 1 := Scalar.xori v854 v855
  let c0_i32_570 : BitVec 32 := 0#32
  let v853 : BitVec 1 := Scalar.cmpi .ne v852 c0_i32_570
  let v857 : BitVec 1 := Scalar.andi v856 v853
  let v858 : BitVec 32 := Scalar.addi v852 v851
  let v859 : BitVec 32 := Scalar.select v857 v858 v852
  let c1_i32_574 : BitVec 32 := 1#32
  let v860 : BitVec 32 := Scalar.muli v859 c1_i32_574
  let v861 : BitVec 32 := Scalar.addi c0_i32_575 v860
  v861.toNat
def k0_dev53 (d0 : Dev nD) : Nat :=
  let c0_i32_589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_580 : BitVec 32 := 22#32
  let v870 : BitVec 32 := Scalar.subi v2 c22_i32_580
  let c32_i32_581 : BitVec 32 := 32#32
  let c0_i32_582 : BitVec 32 := 0#32
  let v871 : BitVec 1 := Scalar.cmpi .eq c32_i32_581 c0_i32_582
  let c1_i32_583 : BitVec 32 := 1#32
  let v872 : BitVec 32 := Scalar.select v871 c1_i32_583 c32_i32_581
  let v873 : BitVec 32 := Scalar.remsi v870 v872
  let c0_i32_585 : BitVec 32 := 0#32
  let v875 : BitVec 1 := Scalar.cmpi .slt v873 c0_i32_585
  let c0_i32_586 : BitVec 32 := 0#32
  let v876 : BitVec 1 := Scalar.cmpi .slt v872 c0_i32_586
  let v877 : BitVec 1 := Scalar.xori v875 v876
  let c0_i32_584 : BitVec 32 := 0#32
  let v874 : BitVec 1 := Scalar.cmpi .ne v873 c0_i32_584
  let v878 : BitVec 1 := Scalar.andi v877 v874
  let v879 : BitVec 32 := Scalar.addi v873 v872
  let v880 : BitVec 32 := Scalar.select v878 v879 v873
  let c1_i32_588 : BitVec 32 := 1#32
  let v881 : BitVec 32 := Scalar.muli v880 c1_i32_588
  let v882 : BitVec 32 := Scalar.addi c0_i32_589 v881
  v882.toNat
def k0_dev54 (d0 : Dev nD) : Nat :=
  let c0_i32_603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_594 : BitVec 32 := 23#32
  let v891 : BitVec 32 := Scalar.subi v2 c23_i32_594
  let c32_i32_595 : BitVec 32 := 32#32
  let c0_i32_596 : BitVec 32 := 0#32
  let v892 : BitVec 1 := Scalar.cmpi .eq c32_i32_595 c0_i32_596
  let c1_i32_597 : BitVec 32 := 1#32
  let v893 : BitVec 32 := Scalar.select v892 c1_i32_597 c32_i32_595
  let v894 : BitVec 32 := Scalar.remsi v891 v893
  let c0_i32_599 : BitVec 32 := 0#32
  let v896 : BitVec 1 := Scalar.cmpi .slt v894 c0_i32_599
  let c0_i32_600 : BitVec 32 := 0#32
  let v897 : BitVec 1 := Scalar.cmpi .slt v893 c0_i32_600
  let v898 : BitVec 1 := Scalar.xori v896 v897
  let c0_i32_598 : BitVec 32 := 0#32
  let v895 : BitVec 1 := Scalar.cmpi .ne v894 c0_i32_598
  let v899 : BitVec 1 := Scalar.andi v898 v895
  let v900 : BitVec 32 := Scalar.addi v894 v893
  let v901 : BitVec 32 := Scalar.select v899 v900 v894
  let c1_i32_602 : BitVec 32 := 1#32
  let v902 : BitVec 32 := Scalar.muli v901 c1_i32_602
  let v903 : BitVec 32 := Scalar.addi c0_i32_603 v902
  v903.toNat
def k0_dev55 (d0 : Dev nD) : Nat :=
  let c0_i32_617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_608 : BitVec 32 := 24#32
  let v912 : BitVec 32 := Scalar.subi v2 c24_i32_608
  let c32_i32_609 : BitVec 32 := 32#32
  let c0_i32_610 : BitVec 32 := 0#32
  let v913 : BitVec 1 := Scalar.cmpi .eq c32_i32_609 c0_i32_610
  let c1_i32_611 : BitVec 32 := 1#32
  let v914 : BitVec 32 := Scalar.select v913 c1_i32_611 c32_i32_609
  let v915 : BitVec 32 := Scalar.remsi v912 v914
  let c0_i32_613 : BitVec 32 := 0#32
  let v917 : BitVec 1 := Scalar.cmpi .slt v915 c0_i32_613
  let c0_i32_614 : BitVec 32 := 0#32
  let v918 : BitVec 1 := Scalar.cmpi .slt v914 c0_i32_614
  let v919 : BitVec 1 := Scalar.xori v917 v918
  let c0_i32_612 : BitVec 32 := 0#32
  let v916 : BitVec 1 := Scalar.cmpi .ne v915 c0_i32_612
  let v920 : BitVec 1 := Scalar.andi v919 v916
  let v921 : BitVec 32 := Scalar.addi v915 v914
  let v922 : BitVec 32 := Scalar.select v920 v921 v915
  let c1_i32_616 : BitVec 32 := 1#32
  let v923 : BitVec 32 := Scalar.muli v922 c1_i32_616
  let v924 : BitVec 32 := Scalar.addi c0_i32_617 v923
  v924.toNat
def k0_dev56 (d0 : Dev nD) : Nat :=
  let c0_i32_631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_622 : BitVec 32 := 25#32
  let v933 : BitVec 32 := Scalar.subi v2 c25_i32_622
  let c32_i32_623 : BitVec 32 := 32#32
  let c0_i32_624 : BitVec 32 := 0#32
  let v934 : BitVec 1 := Scalar.cmpi .eq c32_i32_623 c0_i32_624
  let c1_i32_625 : BitVec 32 := 1#32
  let v935 : BitVec 32 := Scalar.select v934 c1_i32_625 c32_i32_623
  let v936 : BitVec 32 := Scalar.remsi v933 v935
  let c0_i32_627 : BitVec 32 := 0#32
  let v938 : BitVec 1 := Scalar.cmpi .slt v936 c0_i32_627
  let c0_i32_628 : BitVec 32 := 0#32
  let v939 : BitVec 1 := Scalar.cmpi .slt v935 c0_i32_628
  let v940 : BitVec 1 := Scalar.xori v938 v939
  let c0_i32_626 : BitVec 32 := 0#32
  let v937 : BitVec 1 := Scalar.cmpi .ne v936 c0_i32_626
  let v941 : BitVec 1 := Scalar.andi v940 v937
  let v942 : BitVec 32 := Scalar.addi v936 v935
  let v943 : BitVec 32 := Scalar.select v941 v942 v936
  let c1_i32_630 : BitVec 32 := 1#32
  let v944 : BitVec 32 := Scalar.muli v943 c1_i32_630
  let v945 : BitVec 32 := Scalar.addi c0_i32_631 v944
  v945.toNat
def k0_dev57 (d0 : Dev nD) : Nat :=
  let c0_i32_645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_636 : BitVec 32 := 26#32
  let v954 : BitVec 32 := Scalar.subi v2 c26_i32_636
  let c32_i32_637 : BitVec 32 := 32#32
  let c0_i32_638 : BitVec 32 := 0#32
  let v955 : BitVec 1 := Scalar.cmpi .eq c32_i32_637 c0_i32_638
  let c1_i32_639 : BitVec 32 := 1#32
  let v956 : BitVec 32 := Scalar.select v955 c1_i32_639 c32_i32_637
  let v957 : BitVec 32 := Scalar.remsi v954 v956
  let c0_i32_641 : BitVec 32 := 0#32
  let v959 : BitVec 1 := Scalar.cmpi .slt v957 c0_i32_641
  let c0_i32_642 : BitVec 32 := 0#32
  let v960 : BitVec 1 := Scalar.cmpi .slt v956 c0_i32_642
  let v961 : BitVec 1 := Scalar.xori v959 v960
  let c0_i32_640 : BitVec 32 := 0#32
  let v958 : BitVec 1 := Scalar.cmpi .ne v957 c0_i32_640
  let v962 : BitVec 1 := Scalar.andi v961 v958
  let v963 : BitVec 32 := Scalar.addi v957 v956
  let v964 : BitVec 32 := Scalar.select v962 v963 v957
  let c1_i32_644 : BitVec 32 := 1#32
  let v965 : BitVec 32 := Scalar.muli v964 c1_i32_644
  let v966 : BitVec 32 := Scalar.addi c0_i32_645 v965
  v966.toNat
def k0_dev58 (d0 : Dev nD) : Nat :=
  let c0_i32_659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_650 : BitVec 32 := 27#32
  let v975 : BitVec 32 := Scalar.subi v2 c27_i32_650
  let c32_i32_651 : BitVec 32 := 32#32
  let c0_i32_652 : BitVec 32 := 0#32
  let v976 : BitVec 1 := Scalar.cmpi .eq c32_i32_651 c0_i32_652
  let c1_i32_653 : BitVec 32 := 1#32
  let v977 : BitVec 32 := Scalar.select v976 c1_i32_653 c32_i32_651
  let v978 : BitVec 32 := Scalar.remsi v975 v977
  let c0_i32_655 : BitVec 32 := 0#32
  let v980 : BitVec 1 := Scalar.cmpi .slt v978 c0_i32_655
  let c0_i32_656 : BitVec 32 := 0#32
  let v981 : BitVec 1 := Scalar.cmpi .slt v977 c0_i32_656
  let v982 : BitVec 1 := Scalar.xori v980 v981
  let c0_i32_654 : BitVec 32 := 0#32
  let v979 : BitVec 1 := Scalar.cmpi .ne v978 c0_i32_654
  let v983 : BitVec 1 := Scalar.andi v982 v979
  let v984 : BitVec 32 := Scalar.addi v978 v977
  let v985 : BitVec 32 := Scalar.select v983 v984 v978
  let c1_i32_658 : BitVec 32 := 1#32
  let v986 : BitVec 32 := Scalar.muli v985 c1_i32_658
  let v987 : BitVec 32 := Scalar.addi c0_i32_659 v986
  v987.toNat
def k0_dev59 (d0 : Dev nD) : Nat :=
  let c0_i32_673 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_664 : BitVec 32 := 28#32
  let v996 : BitVec 32 := Scalar.subi v2 c28_i32_664
  let c32_i32_665 : BitVec 32 := 32#32
  let c0_i32_666 : BitVec 32 := 0#32
  let v997 : BitVec 1 := Scalar.cmpi .eq c32_i32_665 c0_i32_666
  let c1_i32_667 : BitVec 32 := 1#32
  let v998 : BitVec 32 := Scalar.select v997 c1_i32_667 c32_i32_665
  let v999 : BitVec 32 := Scalar.remsi v996 v998
  let c0_i32_669 : BitVec 32 := 0#32
  let v1001 : BitVec 1 := Scalar.cmpi .slt v999 c0_i32_669
  let c0_i32_670 : BitVec 32 := 0#32
  let v1002 : BitVec 1 := Scalar.cmpi .slt v998 c0_i32_670
  let v1003 : BitVec 1 := Scalar.xori v1001 v1002
  let c0_i32_668 : BitVec 32 := 0#32
  let v1000 : BitVec 1 := Scalar.cmpi .ne v999 c0_i32_668
  let v1004 : BitVec 1 := Scalar.andi v1003 v1000
  let v1005 : BitVec 32 := Scalar.addi v999 v998
  let v1006 : BitVec 32 := Scalar.select v1004 v1005 v999
  let c1_i32_672 : BitVec 32 := 1#32
  let v1007 : BitVec 32 := Scalar.muli v1006 c1_i32_672
  let v1008 : BitVec 32 := Scalar.addi c0_i32_673 v1007
  v1008.toNat
def k0_dev60 (d0 : Dev nD) : Nat :=
  let c0_i32_687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_678 : BitVec 32 := 29#32
  let v1017 : BitVec 32 := Scalar.subi v2 c29_i32_678
  let c32_i32_679 : BitVec 32 := 32#32
  let c0_i32_680 : BitVec 32 := 0#32
  let v1018 : BitVec 1 := Scalar.cmpi .eq c32_i32_679 c0_i32_680
  let c1_i32_681 : BitVec 32 := 1#32
  let v1019 : BitVec 32 := Scalar.select v1018 c1_i32_681 c32_i32_679
  let v1020 : BitVec 32 := Scalar.remsi v1017 v1019
  let c0_i32_683 : BitVec 32 := 0#32
  let v1022 : BitVec 1 := Scalar.cmpi .slt v1020 c0_i32_683
  let c0_i32_684 : BitVec 32 := 0#32
  let v1023 : BitVec 1 := Scalar.cmpi .slt v1019 c0_i32_684
  let v1024 : BitVec 1 := Scalar.xori v1022 v1023
  let c0_i32_682 : BitVec 32 := 0#32
  let v1021 : BitVec 1 := Scalar.cmpi .ne v1020 c0_i32_682
  let v1025 : BitVec 1 := Scalar.andi v1024 v1021
  let v1026 : BitVec 32 := Scalar.addi v1020 v1019
  let v1027 : BitVec 32 := Scalar.select v1025 v1026 v1020
  let c1_i32_686 : BitVec 32 := 1#32
  let v1028 : BitVec 32 := Scalar.muli v1027 c1_i32_686
  let v1029 : BitVec 32 := Scalar.addi c0_i32_687 v1028
  v1029.toNat
def k0_dev61 (d0 : Dev nD) : Nat :=
  let c0_i32_701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_692 : BitVec 32 := 30#32
  let v1038 : BitVec 32 := Scalar.subi v2 c30_i32_692
  let c32_i32_693 : BitVec 32 := 32#32
  let c0_i32_694 : BitVec 32 := 0#32
  let v1039 : BitVec 1 := Scalar.cmpi .eq c32_i32_693 c0_i32_694
  let c1_i32_695 : BitVec 32 := 1#32
  let v1040 : BitVec 32 := Scalar.select v1039 c1_i32_695 c32_i32_693
  let v1041 : BitVec 32 := Scalar.remsi v1038 v1040
  let c0_i32_697 : BitVec 32 := 0#32
  let v1043 : BitVec 1 := Scalar.cmpi .slt v1041 c0_i32_697
  let c0_i32_698 : BitVec 32 := 0#32
  let v1044 : BitVec 1 := Scalar.cmpi .slt v1040 c0_i32_698
  let v1045 : BitVec 1 := Scalar.xori v1043 v1044
  let c0_i32_696 : BitVec 32 := 0#32
  let v1042 : BitVec 1 := Scalar.cmpi .ne v1041 c0_i32_696
  let v1046 : BitVec 1 := Scalar.andi v1045 v1042
  let v1047 : BitVec 32 := Scalar.addi v1041 v1040
  let v1048 : BitVec 32 := Scalar.select v1046 v1047 v1041
  let c1_i32_700 : BitVec 32 := 1#32
  let v1049 : BitVec 32 := Scalar.muli v1048 c1_i32_700
  let v1050 : BitVec 32 := Scalar.addi c0_i32_701 v1049
  v1050.toNat
def k0_dev62 (d0 : Dev nD) : Nat :=
  let c0_i32_715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_706 : BitVec 32 := 31#32
  let v1059 : BitVec 32 := Scalar.subi v2 c31_i32_706
  let c32_i32_707 : BitVec 32 := 32#32
  let c0_i32_708 : BitVec 32 := 0#32
  let v1060 : BitVec 1 := Scalar.cmpi .eq c32_i32_707 c0_i32_708
  let c1_i32_709 : BitVec 32 := 1#32
  let v1061 : BitVec 32 := Scalar.select v1060 c1_i32_709 c32_i32_707
  let v1062 : BitVec 32 := Scalar.remsi v1059 v1061
  let c0_i32_711 : BitVec 32 := 0#32
  let v1064 : BitVec 1 := Scalar.cmpi .slt v1062 c0_i32_711
  let c0_i32_712 : BitVec 32 := 0#32
  let v1065 : BitVec 1 := Scalar.cmpi .slt v1061 c0_i32_712
  let v1066 : BitVec 1 := Scalar.xori v1064 v1065
  let c0_i32_710 : BitVec 32 := 0#32
  let v1063 : BitVec 1 := Scalar.cmpi .ne v1062 c0_i32_710
  let v1067 : BitVec 1 := Scalar.andi v1066 v1063
  let v1068 : BitVec 32 := Scalar.addi v1062 v1061
  let v1069 : BitVec 32 := Scalar.select v1067 v1068 v1062
  let c1_i32_714 : BitVec 32 := 1#32
  let v1070 : BitVec 32 := Scalar.muli v1069 c1_i32_714
  let v1071 : BitVec 32 := Scalar.addi c0_i32_715 v1070
  v1071.toNat
def k0_off5 (d0 : Dev nD) (c1_i32_720 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1080 : BitVec 32 := Scalar.xori v2 c1_i32_720
  ![v1080.toNat]
def k0_off6 (d0 : Dev nD) (c1_i32_720 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1080 : BitVec 32 := Scalar.xori v2 c1_i32_720
  let c0_i32_724 : BitVec 32 := 0#32
  let c0_i32_725 : BitVec 32 := 0#32
  ![v1080.toNat, 0, 0]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S65536x1024 : Shape := ⟨2, ![65536, 1024]⟩
abbrev S_ : Shape := ⟨0, ![]⟩
abbrev S1024 : Shape := ⟨1, ![1024]⟩
abbrev S1x1024 : Shape := ⟨2, ![1, 1024]⟩
abbrev S2x1024 : Shape := ⟨2, ![2, 1024]⟩

abbrev nBuf : Space → Nat
  | .hbm => 12
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .i32⟩
  | .hbm, ⟨2, _⟩ => ⟨S_, .f32⟩
  | .hbm, ⟨3, _⟩ => ⟨S_, .i32⟩
  | .hbm, ⟨4, _⟩ => ⟨S1024, .f32⟩
  | .hbm, ⟨5, _⟩ => ⟨S1024, .i32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S2x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.KernelIdeal.Program.lean ====
/-
# The kernel's program, its four unrolled loops restored

The kernel signals its 31 peers, reduces its block, waits for 31 signals, sends its slot to the 31 peers, waits for
the 31 slots sent to it, combines, and waits for its 31 sends. The printed program has each of these four loops
unrolled and cut into parts; here each loop is a program by recursion over a list, and `body_eq` states that the
printed body is the sequence of the four, by definitional unfolding.
-/
module

public import proofs.«01_k».proof.Proof.Gen.KernelIdeal.Skeleton
public import proofs.«01_k».proof.Proof.Gen.KernelIdeal.Launch

@[expose] public section

noncomputable section

namespace Cert.KernelIdeal.Exchange

open Cert.KernelIdeal Cert.KernelIdeal.Gen
open Idealize.ShloMosaic Idealize.ShloMosaic.TcCoe Idealize.SL.Sem

variable {F : FTy → Type} [FloatOps F] {α : Type}

/-- The kernel's programs. -/
abbrev KProg (F : FTy → Type) [FloatOps F] (α : Type) : Type 1 := Prog (TpuEff nD τ sig (Elt F) Λ₀ Proc.tc) α

/-! ## Buffers and semaphores -/

/-- The staged block of `x`, the staged result, the exchange buffer of 32 slots. -/
abbrev xM : Memref sig .tc .vmem S2048x1024 .f32 := Memref.whole cc0_stg0_0
abbrev oM : Memref sig .tc .vmem S2x1024 .f32 := Memref.whole cc0_stg1_0
abbrev gM : Memref sig .tc .vmem S32x2x1024 .f32 := Memref.whole cc0_scratch0

/-- The runtime's barrier semaphore. -/
abbrev barS : Sem sig := (SemArray.scalar (sig.barrier 0 rfl) : Sems sig S_).sem

theorem sem_inb (o : Fin 32) : ∀ a, (![o.val] : Fin 1 → ℕ) a + S1.size a ≤ S32.size a := by revert o; decide +kernel
theorem slot_inb (s : Fin 32) : ∀ a, (![s.val, 0, 0] : Fin 3 → ℕ) a + S1x2x1024.size a ≤ S32x2x1024.size a := by
  revert s; decide +kernel

/-- The send semaphore number `o`, the receive semaphore number `s`. -/
abbrev sendS (o : Fin 32) : DmaSem sig :=
  ((cc0_scratch1.slice (Rect.unit (s := S32) ![o.val] S1.size (sem_inb o))).squeeze S_ squeezes_S1_S_).sem
abbrev recvS (s : Fin 32) : DmaSem sig :=
  ((cc0_scratch2.slice (Rect.unit (s := S32) ![s.val] S1.size (sem_inb s))).squeeze S_ squeezes_S1_S_).sem

/-- Slot `s` of the exchange buffer: two rows, the maxima and the indices of device `s`. -/
abbrev slotM (s : Fin 32) : Memref sig .tc .vmem S2x1024 .f32 :=
  (gM.slice (Rect.unit (s := S32x2x1024) ![s.val, 0, 0] S1x2x1024.size (slot_inb s)) (fun _ => rfl)).squeeze S2x1024
    squeezes_S1x2x1024_S2x1024

/-! ## The four loops -/

/-- Signal the barrier of each device of the list. -/
def signalAll : List (Dev nD) → KProg F α → KProg F α
  | [], k => k
  | d :: L, k => (semSignalWord d barS 1#32).bind fun _ => signalAll L k

/-- Send slot `s` to each device of the list, into its slot `s`: one entry is the number of the send semaphore and the device. -/
def sendAll (s : Fin 32) : List (Fin 32 × Dev nD) → KProg F α → KProg F α
  | [], k => k
  | od :: L, k => .op (.enqueueDma (slotM s) (.remote (Dev.tc od.2) (slotM s) (.dma (sendS od.1))) (.dma (recvS s))
      ((View.wordExact_bits rfl).reshape _ _) ((View.wordExact_bits rfl).reshape _ _) ⟨⟨rfl, Or.inl rfl⟩, trivial⟩)
      fun _ => sendAll s L k

/-- Wait for the slot of each device of the list to arrive. -/
def recvAll : List (Fin 32) → KProg F α → KProg F α
  | [], k => k
  | s :: L, k => .op (.waitDma2 (recvS s) (slotM s) (slotM s) ((View.wordExact_bits rfl).reshape _ _)
      ((View.wordExact_bits rfl).reshape _ _)) fun _ => recvAll L k

/-- Wait for each of the listed sends of slot `s` to have read its source. -/
def drainAll (s : Fin 32) : List (Fin 32) → KProg F α → KProg F α
  | [], k => k
  | o :: L, k => .op (.waitDma2 (sendS o) (slotM s) (slotM s) ((View.wordExact_bits rfl).reshape _ _)
      ((View.wordExact_bits rfl).reshape _ _)) fun _ => drainAll s L k

/-! ## Who is addressed, in which order -/

/-- The device `r + 1` places after `c`, the device `r + 1` places before it, the device whose number differs by the bits of
    `r + 1`. -/
def up (c : Dev nD) (r : Fin 31) : Dev nD := ⟨(c.val + (1 + r.val)) % 32, Nat.mod_lt _ (by decide)⟩
def dn (c : Dev nD) (r : Fin 31) : Dev nD := ⟨(c.val + (31 - r.val)) % 32, Nat.mod_lt _ (by decide)⟩
def xr (c : Dev nD) (r : Fin 31) : Dev nD :=
  ⟨c.val ^^^ (1 + r.val), Nat.xor_lt_two_pow (n := 5) c.isLt (Nat.lt_of_lt_of_le (Nat.add_lt_add_left r.isLt 1) (by decide))⟩
/-- The number of a copy: `r + 1`. -/
def nm (r : Fin 31) : Fin 32 := ⟨1 + r.val, Nat.add_lt_add_left r.isLt 1⟩

/-- The printed targets of the signals and of the copies, in program order. -/
def sigTargets (c : Dev nD) : List (Dev nD) := [⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩, ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩, ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩, ⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩, ⟨k0_dev21 c, k0_dev21_lt c⟩, ⟨k0_dev22 c, k0_dev22_lt c⟩, ⟨k0_dev23 c, k0_dev23_lt c⟩, ⟨k0_dev24 c, k0_dev24_lt c⟩, ⟨k0_dev25 c, k0_dev25_lt c⟩, ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩, ⟨k0_dev31 c, k0_dev31_lt c⟩]
def sendTargets (c : Dev nD) : List (Dev nD) := [⟨k0_dev32 c, k0_dev32_lt c⟩, ⟨k0_dev33 c, k0_dev33_lt c⟩, ⟨k0_dev34 c, k0_dev34_lt c⟩, ⟨k0_dev35 c, k0_dev35_lt c⟩, ⟨k0_dev36 c, k0_dev36_lt c⟩, ⟨k0_dev37 c, k0_dev37_lt c⟩, ⟨k0_dev38 c, k0_dev38_lt c⟩, ⟨k0_dev39 c, k0_dev39_lt c⟩, ⟨k0_dev40 c, k0_dev40_lt c⟩, ⟨k0_dev41 c, k0_dev41_lt c⟩, ⟨k0_dev42 c, k0_dev42_lt c⟩, ⟨k0_dev43 c, k0_dev43_lt c⟩, ⟨k0_dev44 c, k0_dev44_lt c⟩, ⟨k0_dev45 c, k0_dev45_lt c⟩, ⟨k0_dev46 c, k0_dev46_lt c⟩, ⟨k0_dev47 c, k0_dev47_lt c⟩, ⟨k0_dev48 c, k0_dev48_lt c⟩, ⟨k0_dev49 c, k0_dev49_lt c⟩, ⟨k0_dev50 c, k0_dev50_lt c⟩, ⟨k0_dev51 c, k0_dev51_lt c⟩, ⟨k0_dev52 c, k0_dev52_lt c⟩, ⟨k0_dev53 c, k0_dev53_lt c⟩, ⟨k0_dev54 c, k0_dev54_lt c⟩, ⟨k0_dev55 c, k0_dev55_lt c⟩, ⟨k0_dev56 c, k0_dev56_lt c⟩, ⟨k0_dev57 c, k0_dev57_lt c⟩, ⟨k0_dev58 c, k0_dev58_lt c⟩, ⟨k0_dev59 c, k0_dev59_lt c⟩, ⟨k0_dev60 c, k0_dev60_lt c⟩, ⟨k0_dev61 c, k0_dev61_lt c⟩, ⟨k0_dev62 c, k0_dev62_lt c⟩]

theorem sigTargets_eq : ∀ c : Dev nD, sigTargets c = (List.finRange 31).map (up c) := by decide +kernel
theorem sendTargets_eq : ∀ c : Dev nD, sendTargets c = (List.finRange 31).map (dn c) := by decide +kernel
theorem off5_eq : ∀ (c : Dev nD) (r : Fin 31), k0_off5 c (BitVec.ofNat 32 (1 + r.val)) = ![(xr c r).val] := by decide +kernel
theorem off6_eq : ∀ (c : Dev nD) (r : Fin 31), k0_off6 c (BitVec.ofNat 32 (1 + r.val)) = ![(xr c r).val, 0, 0] := by decide +kernel

/-! ## The printed body is the four loops -/

/-- The three transfer loops over the printed offsets. -/
def sendAll' (c : Dev nD) : List (Fin 32 × Dev nD) → KProg F α → KProg F α
  | [], k => k
  | od :: L, k => .op (.enqueueDma
      ((gM.slice (Rect.unit (s := S32x2x1024) (k0_off4 c) S1x2x1024.size (k0_off4_inb c)) (fun _ => rfl)).squeeze S2x1024 squeezes_S1x2x1024_S2x1024)
      (.remote (Dev.tc od.2)
        ((gM.slice (Rect.unit (s := S32x2x1024) (k0_off4 c) S1x2x1024.size (k0_off4_inb c)) (fun _ => rfl)).squeeze S2x1024 squeezes_S1x2x1024_S2x1024)
        (.dma (sendS od.1)))
      (.dma ((cc0_scratch2.slice (Rect.unit (s := S32) (k0_off3 c) S1.size (k0_off3_inb c))).squeeze S_ squeezes_S1_S_).sem)
      ((View.wordExact_bits rfl).reshape _ _) ((View.wordExact_bits rfl).reshape _ _) ⟨⟨rfl, Or.inl rfl⟩, trivial⟩)
      fun _ => sendAll' c L k
def recvAll' (c : Dev nD) : List (Fin 31) → KProg F α → KProg F α
  | [], k => k
  | r :: L, k => .op (.waitDma2
      ((cc0_scratch2.slice (Rect.unit (s := S32) (k0_off5 c (BitVec.ofNat 32 (1 + r.val))) S1.size (k0_off5_inb c r))).squeeze S_ squeezes_S1_S_).sem
      ((gM.slice (Rect.unit (s := S32x2x1024) (k0_off6 c (BitVec.ofNat 32 (1 + r.val))) S1x2x1024.size (k0_off6_inb c r)) (fun _ => rfl)).squeeze S2x1024 squeezes_S1x2x1024_S2x1024)
      ((gM.slice (Rect.unit (s := S32x2x1024) (k0_off6 c (BitVec.ofNat 32 (1 + r.val))) S1x2x1024.size (k0_off6_inb c r)) (fun _ => rfl)).squeeze S2x1024 squeezes_S1x2x1024_S2x1024)
      ((View.wordExact_bits rfl).reshape _ _) ((View.wordExact_bits rfl).reshape _ _)) fun _ => recvAll' c L k
def drainAll' (c : Dev nD) : List (Fin 32) → KProg F α → KProg F α
  | [], k => k
  | o :: L, k => .op (.waitDma2 (sendS o)
      ((gM.slice (Rect.unit (s := S32x2x1024) (k0_off4 c) S1x2x1024.size (k0_off4_inb c)) (fun _ => rfl)).squeeze S2x1024 squeezes_S1x2x1024_S2x1024)
      ((gM.slice (Rect.unit (s := S32x2x1024) (k0_off4 c) S1x2x1024.size (k0_off4_inb c)) (fun _ => rfl)).squeeze S2x1024 squeezes_S1x2x1024_S2x1024)
      ((View.wordExact_bits rfl).reshape _ _) ((View.wordExact_bits rfl).reshape _ _)) fun _ => drainAll' c L k

theorem slot_congr {o o' : Fin 3 → ℕ} (e : o = o') (h : ∀ a, o a + S1x2x1024.size a ≤ S32x2x1024.size a)
    (h' : ∀ a, o' a + S1x2x1024.size a ≤ S32x2x1024.size a) :
    (gM.slice (Rect.unit (s := S32x2x1024) o S1x2x1024.size h) (fun _ => rfl)).squeeze S2x1024 squeezes_S1x2x1024_S2x1024
      = (gM.slice (Rect.unit (s := S32x2x1024) o' S1x2x1024.size h') (fun _ => rfl)).squeeze S2x1024 squeezes_S1x2x1024_S2x1024 := by
  subst e; rfl
theorem sem_congr {o o' : Fin 1 → ℕ} (e : o = o') (h : ∀ a, o a + S1.size a ≤ S32.size a) (h' : ∀ a, o' a + S1.size a ≤ S32.size a) :
    ((cc0_scratch2.slice (Rect.unit (s := S32) o S1.size h)).squeeze S_ squeezes_S1_S_).sem
      = ((cc0_scratch2.slice (Rect.unit (s := S32) o' S1.size h')).squeeze S_ squeezes_S1_S_).sem := by
  subst e; rfl

theorem sendAll'_eq (c : Dev nD) (L : List (Fin 32 × Dev nD)) (k : KProg F α) : sendAll' c L k = sendAll c L k := by
  induction L with
  | nil => rfl
  | cons od L ih => unfold sendAll' sendAll; rw [ih]; simp only [slot_congr (k0_off4_eq c) _ (slot_inb c), sem_congr (k0_off3_eq c) _ (sem_inb c)]
theorem recvAll'_eq (c : Dev nD) (L : List (Fin 31)) (k : KProg F α) : recvAll' c L k = recvAll (L.map (xr c)) k := by
  induction L with
  | nil => rfl
  | cons r L ih =>
    rw [List.map_cons]; unfold recvAll' recvAll; rw [ih]
    simp only [slot_congr (off6_eq c r) _ (slot_inb (xr c r)), sem_congr (off5_eq c r) _ (sem_inb (xr c r))]
theorem drainAll'_eq (c : Dev nD) (L : List (Fin 32)) (k : KProg F α) : drainAll' c L k = drainAll c L k := by
  induction L with
  | nil => rfl
  | cons o L ih => unfold drainAll' drainAll; rw [ih]

/-- Device `c`'s number as the kernel computes it. -/
def word (c : Dev nD) : BitVec 32 := Scalar.remsi (Scalar.divsi (Dev.word c) 1#32) 32#32

/-- The two rows of the slot of device `c`, as the kernel addresses them. -/
abbrev rowR (c : Dev nD) : Rect S32x2x1024 := Rect.unit (s := S32x2x1024) (k0_off1 c) S1x1x1024.size (k0_off1_inb c)
abbrev rowR' (c : Dev nD) : Rect S32x2x1024 := Rect.unit (s := S32x2x1024) (k0_off2 c) S1x1x1024.size (k0_off2_inb c)
/-- All slots' first rows, all slots' second rows. -/
abbrev colR : Rect S32x2x1024 := Rect.unit (s := S32x2x1024) ![0, 0, 0] S32x1x1024.size inb_S32x2x1024_S32x1x1024_0_0_0
abbrev colR' : Rect S32x2x1024 := Rect.unit (s := S32x2x1024) ![0, 1, 0] S32x1x1024.size inb_S32x2x1024_S32x1x1024_0_1_0
/-- The two rows of the result, and the whole block of `x`. -/
abbrev outR : Rect S2x1024 := Rect.unit (s := S2x1024) ![0, 0] S1x1024.size inb_S2x1024_S1x1024_0_0
abbrev outR' : Rect S2x1024 := Rect.unit (s := S2x1024) ![1, 0] S1x1024.size inb_S2x1024_S1x1024_1_0
abbrev xR : Rect S2048x1024 := Rect.unit (s := S2048x1024) ![0, 0] S2048x1024.size inb_S2048x1024_S2048x1024_0_0

/-- The combining step and what follows it: both rows of all slots are read, the maximum and the index stored, the sends
    waited for. -/
def combine (k : KProg F α) : KProg F α :=
  .op (.load gM colR.toLoadRect (View.loadsAt_vmem h_S32x1x1024)) fun (v : Vec F S32x1x1024 .f32) =>
  .op (.load gM colR'.toLoadRect (View.loadsAt_vmem h_S32x1x1024)) fun (w : Vec F S32x1x1024 .f32) =>
  .op (.load oM outR.toLoadRect (View.loadsAt_vmem h_S1x1024)) fun (_ : Vec F S1x1024 .f32) =>
  .op (.store oM outR (k0_pay8 v) Finset.univ (View.stores_vmem_bits_univ h_S1x1024 rfl) (.inl rfl)) fun _ =>
  .op (.load oM outR'.toLoadRect (View.loadsAt_vmem h_S1x1024)) fun (_ : Vec F S1x1024 .f32) =>
  .op (.store oM outR' (k0_pay9 v w) Finset.univ (View.stores_vmem_bits_univ h_S1x1024 rfl) (.inl rfl)) fun _ => k

/-- The reduction of device `c`'s own block, stored in its slot. -/
def reduce (c : Dev nD) (k : KProg F α) : KProg F α :=
  .op (.load xM xR.toLoadRect (View.loadsAt_vmem h_S2048x1024)) fun (x : Vec F S2048x1024 .f32) =>
  .op (.load gM (rowR c).toLoadRect (View.loadsAt_vmem h_S1x1x1024)) fun (_ : Vec F S1x1x1024 .f32) =>
  .op (.store gM (rowR c) (k0_pay3 x) Finset.univ (View.stores_vmem_bits_univ h_S1x1x1024 rfl) (.inl rfl)) fun _ =>
  .op (.load gM (rowR' c).toLoadRect (View.loadsAt_vmem h_S1x1x1024)) fun (_ : Vec F S1x1x1024 .f32) =>
  .op (.store gM (rowR' c) (k0_pay5 (k0_pay4 (word c) x)) Finset.univ (View.stores_vmem_bits_univ h_S1x1x1024 rfl) (.inl rfl)) fun _ => k

set_option maxRecDepth 65536 in
set_option maxHeartbeats 4000000 in
/-- The printed body, run on the staged blocks, the exchange buffer and the two semaphore arrays: the four loops. -/
theorem body_eq' :
    cc0_body (F := F) xM (Memref.isWhole_whole _) oM (Memref.isWhole_whole _) gM (Memref.isWhole_whole _) cc0_scratch1 cc0_scratch2
      = .op .deviceId fun c => signalAll (sigTargets c) (reduce c ((semWaitWord barS 31#32).bind fun _ =>
          sendAll' c (((List.finRange 31).map nm).zip (sendTargets c)) (recvAll' c (List.finRange 31)
            (combine (drainAll' c ((List.finRange 31).map nm) (.ret ⟨⟩)))))) := rfl

/-- The same over the peers by place. -/
theorem body_eq :
    cc0_body (F := F) xM (Memref.isWhole_whole _) oM (Memref.isWhole_whole _) gM (Memref.isWhole_whole _) cc0_scratch1 cc0_scratch2
      = .op .deviceId fun c => signalAll ((List.finRange 31).map (up c)) (reduce c ((semWaitWord barS 31#32).bind fun _ =>
          sendAll c ((List.finRange 31).map fun r => (nm r, dn c r)) (recvAll ((List.finRange 31).map (xr c))
            (combine (drainAll c ((List.finRange 31).map nm) (.ret ⟨⟩)))))) := by
  rw [body_eq']
  simp only [sigTargets_eq, sendTargets_eq, sendAll'_eq, recvAll'_eq, drainAll'_eq, List.zip_map']

end Cert.KernelIdeal.Exchange

end
-- ==== Proof.KernelIdeal.Protocol.lean ====
/-
# The protocol of the exchange

Device `c` hands, with its signal to device `d`, the slot `d` of its own exchange buffer, whatever it holds. Device `d`
has thus, after its 31 signals, the slot `d` of every other device, and may copy its own slot into each. A copy from `c`
pays two cells: `c`'s send semaphore of the copy's number, with the share of `c`'s slot the copy read, and the peer's
receive semaphore `c`, with the peer's slot `c` now holding the maxima and indices of `c`. One round of a schedule says
this; a duty is named by the device that pays it. This module has the schedule, the contents of the exchange buffer, and
the levels that order the waits.
-/
module

public import proofs.«01_k».proof.Proof.KernelIdeal.Program
public import Idealize.ShloMosaic.Lib.Pipeline.Launch
public import Idealize.ShloMosaic.Lib.Pipeline.Kit
public import Idealize.ShloMosaic.Lib.Tactic
public import Idealize.ShloMosaic.Lib.ShareLeaves
public import Idealize.ShloMosaic.Lib.Ring
public import Idealize.ShloMosaic.Lib.Pointwise.Index

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

/-- The rounds of the exchange, duties named by devices, beside the pipeline's own. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- A device's cells: its barrier, its 32 send semaphores, its 32 receive semaphores. -/
abbrev Ck : Type := Unit ⊕ (Fin 32 ⊕ Fin 32)

abbrev osem : Fin 32 ⊕ Fin 32 → SemLoc sig
  | .inl o => .dma (sendS o)
  | .inr s => .dma (recvS s)
abbrev csem : Ck → SemLoc sig
  | .inl _ => .reg barS
  | .inr k => osem k

abbrev kcell (ck : Dev nD × Ck) : GSem nD τ sig := ((ck.1 : Thread nD τ), csem ck.2)
abbrev barCell (c : Dev nD) : GSem nD τ sig := kcell (c, .inl ())
abbrev sendCell (c : Dev nD) (o : Fin 32) : GSem nD τ sig := kcell (c, .inr (.inl o))
abbrev recvCell (c : Dev nD) (s : Fin 32) : GSem nD τ sig := kcell (c, .inr (.inr s))

/-- Which of a device's cells a semaphore is, if any. -/
def kindOf : SemLoc sig → Option Ck
  | .reg _ => some (.inl ())
  | .dma q => if q.val < 2 then none
      else if q.val < 34 then some (.inr (.inl ⟨(q.val - 2) % 32, Nat.mod_lt _ (by decide)⟩))
      else some (.inr (.inr ⟨(q.val - 34) % 32, Nat.mod_lt _ (by decide)⟩))

theorem kindOf_send : ∀ o : Fin 32, kindOf (.dma (sendS o)) = some (.inr (.inl o)) := by decide +kernel
theorem kindOf_recv : ∀ s : Fin 32, kindOf (.dma (recvS s)) = some (.inr (.inr s)) := by decide +kernel
theorem kindOf_csem : ∀ k : Ck, kindOf (csem k) = some k
  | .inl () => rfl
  | .inr (.inl o) => kindOf_send o
  | .inr (.inr s) => kindOf_recv s

theorem csem_injective : Function.Injective csem := fun a b h =>
  Option.some.inj ((kindOf_csem a).symm.trans ((congrArg kindOf h).trans (kindOf_csem b)))

theorem kcell_injective : Function.Injective (kcell : Dev nD × Ck → GSem nD τ sig) := by
  rintro ⟨c, k⟩ ⟨c', k'⟩ h
  have h1 : c = c' := congrArg (fun g : GSem nD τ sig => g.1.1) h
  subst h1
  exact congrArg (Prod.mk c) (csem_injective (congrArg Prod.snd h))

/-- What a transfer of a slot credits. -/
abbrev N : ℕ := (slotM 0).view.dmaCredit
theorem N_pos : 0 < N := View.dmaCredit_pos _ (by decide)

/-! ## The peers, each met once -/

theorem up_inj : ∀ (c : Dev nD) (r r' : Fin 31), up c r = up c r' → r = r' := by decide +kernel
theorem dn_inj : ∀ (c : Dev nD) (r r' : Fin 31), dn c r = dn c r' → r = r' := by decide +kernel
theorem xr_inj : ∀ (c : Dev nD) (r r' : Fin 31), xr c r = xr c r' → r = r' := by decide +kernel
theorem nm_inj : ∀ (r r' : Fin 31), nm r = nm r' → r = r' := by decide +kernel
theorem dn_up : ∀ (c : Dev nD) (r : Fin 31), dn (up c r) r = c := by decide +kernel
theorem up_dn : ∀ (c : Dev nD) (r : Fin 31), up (dn c r) r = c := by decide +kernel
theorem up_ne : ∀ (c : Dev nD) (r : Fin 31), up c r ≠ c := by decide +kernel
theorem dn_ne : ∀ (c : Dev nD) (r : Fin 31), dn c r ≠ c := by decide +kernel
theorem xr_ne : ∀ (c : Dev nD) (r : Fin 31), xr c r ≠ c := by decide +kernel
theorem nm_ne : ∀ r : Fin 31, nm r ≠ 0 := by decide +kernel

/-- 31 distinct places, none of them `a`, are all places but `a`. -/
theorem map_eq_erase (a : Fin 32) (p : Fin 31 → Fin 32) (hp : Function.Injective p) (hn : ∀ r, p r ≠ a) :
    Finset.univ.map ⟨p, hp⟩ = Finset.univ.erase a := by
  refine Finset.eq_of_subset_of_card_le (fun x hx => ?_) ?_
  · obtain ⟨r, -, rfl⟩ := Finset.mem_map.mp hx
    exact Finset.mem_erase.mpr ⟨hn r, Finset.mem_univ _⟩
  · rw [Finset.card_map, Finset.card_erase_of_mem (Finset.mem_univ _)]; simp

/-- A conjunction over all places but `a` is one over the 31 numbers. -/
theorem bigSep_erase_eq (a : Fin 32) (p : Fin 31 → Fin 32) (hp : ∀ r r', p r = p r' → r = r') (hn : ∀ r, p r ≠ a)
    (Φ : Fin 32 → sProp 𝕄) : bigSep (Finset.univ.erase a) Φ = bigSep Finset.univ fun r => Φ (p r) := by
  rw [← map_eq_erase a p (fun r r' => hp r r') hn, bigSep_map]; rfl

/-- A sum over the 31 numbers is one over all places but `a`. -/
theorem sum_erase_eq {M : Type} [AddCommMonoid M] (a : Fin 32) (p : Fin 31 → Fin 32) (hp : ∀ r r', p r = p r' → r = r')
    (hn : ∀ r, p r ≠ a) (f : Fin 32 → M) : ∑ r, f (p r) = ∑ e ∈ Finset.univ.erase a, f e := by
  rw [← map_eq_erase a p (fun r r' => hp r r') hn, Finset.sum_map]; rfl

/-! ## Contents -/

/-- The exchange buffer after the exchange, of the devices' blocks `X`: slot `s` has the maxima of `X s` and below them
    the indices of `X s`, as device `s` computes both. -/
def gath (X : Dev nD → Vec F S2048x1024 .f32) : (cc0_scratch0 : Ref sig .tc).ty.Contents (Elt F) := fun (i : S32x2x1024.Idx) =>
  if (i 1).val = 0 then k0_pay3 (X (i 0)) (ix3 (n0 := 1) (n1 := 1) (n2 := 1024) 0 0 (i 2))
  else k0_pay5 (k0_pay4 (word (i 0)) (X (i 0))) (ix3 (n0 := 1) (n1 := 1) (n2 := 1024) 0 0 (i 2))

/-- The elements of slot `s`. -/
def slotSet (s : Fin 32) : Finset S32x2x1024.Idx := (slotM s).view.set

/-- A slot's elements are those whose first coordinate is its number. -/
theorem mem_slot (s : Fin 32) (i : S32x2x1024.Idx) : i ∈ slotSet s ↔ i 0 = s := by
  unfold slotSet
  have h : (slotM s).view.set = (Rect.unit (s := S32x2x1024) ![s.val, 0, 0] S1x2x1024.size (slot_inb s)).set := by
    show (((View.whole cc0_scratch0).slice _).reshape _ _).set = _
    rw [View.set_reshape, View.set_slice_whole]
  rw [h, Rect.mem_set_unit]
  constructor
  · intro h
    have h0 := h 0
    simp at h0
    exact Fin.ext (by have := h0.1; have := h0.2; omega)
  · rintro rfl a
    have h1 : (i 1 : ℕ) < 2 := (i 1).isLt
    have h2 : (i 2 : ℕ) < 1024 := (i 2).isLt
    fin_cases a
    · show (i 0 : ℕ) ≤ (i 0 : ℕ) ∧ (i 0 : ℕ) < (i 0 : ℕ) + 1; omega
    · show 0 ≤ (i 1 : ℕ) ∧ (i 1 : ℕ) < 0 + 2; omega
    · show 0 ≤ (i 2 : ℕ) ∧ (i 2 : ℕ) < 0 + 1024; omega

theorem slots_disjoint (s s' : Fin 32) (h : s ≠ s') : Disjoint (slotSet s) (slotSet s') :=
  Finset.disjoint_left.mpr fun i hi hi' => h ((mem_slot s i).mp hi ▸ (mem_slot s' i).mp hi')

theorem slots_cover : (Finset.univ.biUnion fun s : Fin 32 => slotSet s) = Finset.univ :=
  Finset.eq_univ_of_forall fun i => Finset.mem_biUnion.mpr ⟨i 0, Finset.mem_univ _, (mem_slot _ i).mpr rfl⟩

/-- A row of the exchange buffer stored, at an element of the row: the stored value there. -/
theorem row_write (o : Fin 3 → ℕ) (inb : ∀ a, o a + S1x1x1024.size a ≤ S32x2x1024.size a)
    (f : (cc0_scratch0 : Ref sig .tc).ty.Contents (Elt F)) (w : Vec F S1x1x1024 .f32) (i : S32x2x1024.Idx) (h : o = ![(i 0).val, (i 1).val, 0]) :
    (gM.access (Rect.unit (s := S32x2x1024) o S1x1x1024.size inb)).write (Elt F) f w Finset.univ i
      = w (ix3 (n0 := 1) (n1 := 1) (n2 := 1024) 0 0 (i 2)) := by
  have e : (gM.access (Rect.unit (s := S32x2x1024) o S1x1x1024.size inb)).emb (ix3 (n0 := 1) (n1 := 1) (n2 := 1024) 0 0 (i 2)) = i := by
    funext a
    refine Fin.ext ?_
    show o a + 1 * ((ix3 (n0 := 1) (n1 := 1) (n2 := 1024) 0 0 (i 2)) a : ℕ) = (i a : ℕ)
    rw [h]
    fin_cases a
    · show (i 0 : ℕ) + 1 * 0 = (i 0 : ℕ); omega
    · show (i 1 : ℕ) + 1 * 0 = (i 1 : ℕ); omega
    · show 0 + 1 * (i 2 : ℕ) = (i 2 : ℕ); omega
  have key := View.write_emb_of_mem (v := gM.access (Rect.unit (s := S32x2x1024) o S1x1x1024.size inb)) f w
    (Finset.mem_univ (ix3 (n0 := 1) (n1 := 1) (n2 := 1024) 0 0 (i 2)))
  rw [e] at key
  exact key

/-- A row of the exchange buffer stored, at an element of another row: what was there. -/
theorem row_write_off (o : Fin 3 → ℕ) (inb : ∀ a, o a + S1x1x1024.size a ≤ S32x2x1024.size a)
    (f : (cc0_scratch0 : Ref sig .tc).ty.Contents (Elt F)) (w : Vec F S1x1x1024 .f32) (i : S32x2x1024.Idx) (h : (i 1).val < o 1) :
    (gM.access (Rect.unit (s := S32x2x1024) o S1x1x1024.size inb)).write (Elt F) f w Finset.univ i = f i := by
  refine View.write_of_not_mem _ _ _ fun hm => ?_
  have e : (gM.access (Rect.unit (s := S32x2x1024) o S1x1x1024.size inb)).setOn Finset.univ
      = (Rect.unit (s := S32x2x1024) o S1x1x1024.size inb).set := View.set_slice_whole cc0_scratch0 _
  rw [e] at hm
  have h' := ((Rect.mem_set_unit.mp hm) 1).1
  exact absurd h (Nat.not_lt.mpr h')

/-- Device `c`'s two row stores put the contents of the exchange into its slot. -/
theorem stores_gath (X : Dev nD → Vec F S2048x1024 .f32) (c : Dev nD) (f : (cc0_scratch0 : Ref sig .tc).ty.Contents (Elt F))
    (i : S32x2x1024.Idx) (hi : i ∈ slotSet c) :
    (gM.access (rowR' c)).write (Elt F)
      ((gM.access (rowR c)).write (Elt F) f (k0_pay3 (X c)) Finset.univ) (k0_pay5 (k0_pay4 (word c) (X c))) Finset.univ i = gath X i := by
  have hi0 := (mem_slot c i).mp hi
  subst hi0
  have h1 : (i 1 : ℕ) < 2 := (i 1).isLt
  unfold gath
  by_cases h : (i 1).val = 0
  · rw [if_pos h, row_write_off _ _ _ _ i (by rw [k0_off2_eq (i 0)]; show (i 1).val < 1; omega)]
    exact row_write _ _ _ _ i (by rw [k0_off1_eq (i 0), h])
  · rw [if_neg h]
    exact row_write _ _ _ _ i (by rw [k0_off2_eq (i 0), show (i 1).val = 1 by omega])

/-- What a copy of slot `c` lands: the contents of the exchange. -/
theorem landed_gath (X : Dev nD → Vec F S2048x1024 .f32) (c : Dev nD) (f : (cc0_scratch0 : Ref sig .tc).ty.Contents (Elt F))
    (i : S32x2x1024.Idx) (hi : i ∈ slotSet c) :
    (slotM c).view.write (Elt F) f ((slotM c).view.read (Elt F) (gath X)) Finset.univ i = gath X i := by
  rw [View.write_read_eq_piecewise]
  exact Finset.piecewise_eq_of_mem _ _ _ hi

/-! ## The slots as resources -/

/-- Slot `s` of device `c`'s exchange buffer at a share, at contents `f`. -/
def slotPts (c : Dev nD) (s : Fin 32) (q : PosShare TreeShare) (f : (cc0_scratch0 : Ref sig .tc).ty.Contents (Elt F)) : sProp 𝕄 :=
  ((c : Thread nD τ).loc cc0_scratch0) ↦[slotSet s]{q} f

instance slotPts_storable (c : Dev nD) (s : Fin 32) (q : PosShare TreeShare) (f) :
    BI.Storable (upEmb : UEmb _ 𝕄) (slotPts (F := F) c s q f) := by unfold slotPts; infer_instance

theorem slotPts_congr (c : Dev nD) (s : Fin 32) (q : PosShare TreeShare) (f g : (cc0_scratch0 : Ref sig .tc).ty.Contents (Elt F))
    (h : ∀ i ∈ slotSet s, f i = g i) : (slotPts c s q f : sProp 𝕄) = slotPts c s q g := by
  unfold slotPts; exact pointsTo_congr h

/-- The whole exchange buffer at a share is its 32 slots at that share. -/
theorem slots_eq (c : Dev nD) (q : PosShare TreeShare) (f : (cc0_scratch0 : Ref sig .tc).ty.Contents (Elt F)) :
    (((c : Thread nD τ).loc cc0_scratch0) ↦{q} f : sProp 𝕄) = bigSep Finset.univ fun s => slotPts c s q f :=
  Ring.pointsTo_blocks (ℓ := (c : Thread nD τ).loc cc0_scratch0) slotSet slots_disjoint slots_cover f

/-- The share copy number `o` of device `c`'s own slot reads it at: one of the 32 equal parts of the right half. -/
def lent (o : Fin 32) : PosShare TreeShare := ShareLeaves.leaf 5 fullShare.right (finCongr (by decide) o)

/-- A slot in full is its two halves. -/
theorem slot_half (c : Dev nD) (s : Fin 32) (f : (cc0_scratch0 : Ref sig .tc).ty.Contents (Elt F)) :
    (slotPts c s fullShare f : sProp 𝕄) = iprop(slotPts c s fullShare.left f ∗ slotPts c s fullShare.right f) := by
  unfold slotPts
  exact BI.Entails.antisymm (pointsTo_share (PosShare.mem_left_op_right fullShare)).1 (pointsTo_share (PosShare.mem_left_op_right fullShare)).2

/-- A slot in full is its left half and the 32 parts of its right half. -/
theorem slot_split (c : Dev nD) (s : Fin 32) (f : (cc0_scratch0 : Ref sig .tc).ty.Contents (Elt F)) :
    (slotPts c s fullShare f : sProp 𝕄) = iprop(slotPts c s fullShare.left f ∗ slotPts c s (lent 0) f ∗ bigSep Finset.univ fun r => slotPts c s (lent (nm r)) f) := by
  have h2 : (slotPts c s fullShare.right f : sProp 𝕄) = bigSep Finset.univ fun o : Fin 32 => slotPts c s (lent o) f := by
    unfold slotPts
    rw [ShareLeaves.pointsTo_leaves (ℓ := (c : Thread nD τ).loc cc0_scratch0) (slotSet s) f 5 fullShare.right, bigSep_univ_equiv (finCongr (show 32 = 2 ^ 5 by decide))]
    rfl
  rw [slot_half, h2, bigSep_univ_at _ (0 : Fin 32), bigSep_erase_eq 0 nm nm_inj nm_ne]

/-! ## The schedule -/

/-- The duties of a device's cells: a barrier is paid by every other device; send semaphore `o` by the device itself, unless
    `o` is 0, which no copy uses; receive semaphore `s` by device `s`, unless that is the device itself. -/
def dutiesOf (c : Dev nD) : Ck → Finset (Dev nD)
  | .inl _ => Finset.univ.erase c
  | .inr (.inl o) => if o = 0 then ∅ else {c}
  | .inr (.inr s) => if s = c then ∅ else {s}

theorem duties_send (c : Dev nD) (r : Fin 31) : dutiesOf c (.inr (.inl (nm r))) = {c} := if_neg (nm_ne r)
theorem duties_recv (c : Dev nD) (s : Fin 32) (h : s ≠ c) : dutiesOf c (.inr (.inr s)) = {s} := if_neg h

/-- What one duty of a cell credits. -/
def amountOf : Ck → ℕ
  | .inl _ => 1
  | .inr _ => N

/-- What a paid duty hands the device whose cell it is. -/
def payOf (X : Dev nD → Vec F S2048x1024 .f32) (c d : Dev nD) : Ck → sProp 𝕄
  | .inl _ => iprop(∃ f, slotPts d c fullShare f)
  | .inr (.inl o) => slotPts c c (lent o) (gath X)
  | .inr (.inr s) => slotPts c s fullShare (gath X)

instance payOf_storable (X : Dev nD → Vec F S2048x1024 .f32) (c d : Dev nD) (k : Ck) : BI.Storable (upEmb : UEmb _ 𝕄) (payOf X c d k) := by
  rcases k with _ | _ | _ <;> unfold payOf <;> infer_instance

/-- One round of the cells of all devices. -/
def xRd (X : Dev nD → Vec F S2048x1024 .f32) : Rounds.Schedule (GSem nD τ sig) (Dev nD) 𝕄 where
  duties g r := if r = 0 ∧ g.1.2 = .tc then (kindOf g.2).elim ∅ (dutiesOf g.1.1) else ∅
  unitless _ := False
  amount g _ _ := (kindOf g.2).elim 1 amountOf
  payload g _ d := (kindOf g.2).elim iprop(emp) (payOf X g.1.1 d)
  amount_pos g _ _ _ := by
    rcases kindOf g.2 with _ | _ | _
    · exact Nat.one_pos
    · exact Nat.one_pos
    · exact N_pos

instance xRd_payload_storable (X : Dev nD → Vec F S2048x1024 .f32) (g : GSem nD τ sig) (r : ℕ) (d : Dev nD) :
    BI.Storable (upEmb : UEmb _ 𝕄) ((xRd (F := F) X).payload g r d) := by
  show BI.Storable upEmb ((kindOf g.2).elim iprop(emp) (payOf X g.1.1 d))
  rcases kindOf g.2 with _ | k
  · show BI.Storable upEmb (iprop(emp)); infer_instance
  · exact payOf_storable X g.1.1 d k

section Sched
variable (X : Dev nD → Vec F S2048x1024 .f32) (c d : Dev nD) (k : Ck)

theorem duties_eq : (xRd (F := F) X).duties (kcell (c, k)) 0 = dutiesOf c k := by
  have h : (xRd (F := F) X).duties (kcell (c, k)) 0 = (kindOf (csem k)).elim ∅ (dutiesOf c) := by
    dsimp only [xRd]; exact if_pos ⟨rfl, rfl⟩
  rw [h, kindOf_csem]; rfl
theorem duties_later (g : GSem nD τ sig) (r : ℕ) (hr : 1 ≤ r) : (xRd (F := F) X).duties g r = ∅ :=
  if_neg fun h => by omega
/-- A cell nobody pays has no duty at any round. -/
theorem duties_unused (k : Fin 32 ⊕ Fin 32) (h : dutiesOf c (.inr k) = ∅) (r : ℕ) : (xRd (F := F) X).duties (kcell (c, .inr k)) r = ∅ := by
  rcases Nat.eq_zero_or_pos r with rfl | hr
  · rw [duties_eq, h]
  · exact duties_later X _ r hr
theorem amount_eq : (xRd (F := F) X).amount (kcell (c, k)) 0 d = amountOf k := by
  show (kindOf (csem k)).elim 1 amountOf = _
  rw [kindOf_csem]; rfl
theorem payload_eq : (xRd (F := F) X).payload (kcell (c, k)) 0 d = payOf X c d k := by
  show (kindOf (csem k)).elim iprop(emp) (payOf X c d) = _
  rw [kindOf_csem]; rfl
theorem expect_eq : (xRd (F := F) X).expect (kcell (c, k)) 0 = (dutiesOf c k).card * amountOf k := by
  unfold Schedule.expect Schedule.amountOf
  rw [duties_eq, Finset.sum_congr rfl fun d _ => amount_eq X c d k, Finset.sum_const, smul_eq_mul]
theorem rest_eq : bigSep ((xRd (F := F) X).duties (kcell (c, k)) 0 \ ∅) (fun d => (xRd (F := F) X).payload (kcell (c, k)) 0 d)
    = bigSep (dutiesOf c k) fun d => payOf X c d k := by
  rw [Finset.sdiff_empty, duties_eq]; exact bigSep_congr fun d _ => payload_eq X c d k

end Sched

/-! ## What each device owes at launch; the levels -/

/-- What device `c` owes the receive semaphores of its peers, and their barriers. -/
def owedRecv (c : Dev nD) (S : Finset (Fin 31)) : CellTallies nD τ sig Unit := ∑ r ∈ S, tallyAt (recvCell (dn c r) c) () N
def owedBar (c : Dev nD) (S : Finset (Fin 31)) : CellTallies nD τ sig Unit := ∑ r ∈ S, tallyAt (barCell (up c r)) () 1
def O₀ (c : Dev nD) : CellTallies nD τ sig Unit := owedRecv c Finset.univ + owedBar c Finset.univ

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Barriers at level 1, receive semaphores at 2, the others at 0. -/
def lvOf : Option Ck → ℕ
  | some (.inl _) => 1
  | some (.inr (.inr _)) => 2
  | _ => 0
def lv (g : GSem nD τ sig) (_ : Unit) : ℕ := lvOf (kindOf g.2)
theorem lv_kcell (c : Dev nD) (k : Ck) (u : Unit) : lv (kcell (c, k)) u = lvOf (some k) := by
  show lvOf (kindOf (csem k)) = _
  rw [kindOf_csem]

theorem sum_tally_pos (S : Finset (Fin 31)) (p : Fin 31 → GSem nD τ sig) (n : ℕ) {g : GSem nD τ sig} {u : Unit}
    (h : 0 < (∑ r ∈ S, tallyAt (p r) () n : CellTallies nD τ sig Unit) g u) : ∃ r, g = p r := by
  by_contra hn
  rw [Finset.sum_apply, Finsupp.finset_sum_apply, Finset.sum_eq_zero fun r _ => by
    rw [tallyAt_apply, if_neg fun h' => hn ⟨r, h'.1⟩]] at h
  exact Nat.lt_irrefl 0 h

/-- At its barrier wait a device owes receive semaphores only, which are above its barrier. -/
theorem mayWait_bar (c : Dev nD) (S : Finset (Fin 31)) :
    (levAts L lv : sProp 𝕄) ⊢ MayWait (c : Thread nD τ) (.reg barS) () (owedRecv c S) :=
  MayOwe.of_cut (L := L) (lev := lv) 1 (fun p hp => by rw [Finset.mem_singleton.mp hp, L_tc]; exact Finset.mem_singleton_self _)
    (fun g u hg => by obtain ⟨r, rfl⟩ := sum_tally_pos S _ _ hg; exact Finset.mem_singleton_self _)
    (fun p hp => by rw [Finset.mem_singleton.mp hp]; exact le_of_eq (lv_kcell c (.inl ()) ()))
    (fun g u hg => by obtain ⟨r, rfl⟩ := sum_tally_pos S _ _ hg; rw [lv_kcell]; exact Nat.lt_succ_self 1)

/-- The staging transfers' waits are below everything a device owes. -/
theorem mayWait_stage (c : Dev nD) (q : DmaSem sig) (hq : kindOf (.dma q) = none) (O : CellTallies nD τ sig Unit) (hO : O = O₀ c ∨ O = 0) :
    (levAts L lv : sProp 𝕄) ⊢ MayWait (c : Thread nD τ) (.dma q) () O := by
  rcases hO with rfl | rfl
  · have key : ∀ (g : GSem nD τ sig) (u : Unit), 0 < O₀ c g u → (∃ r, g = recvCell (dn c r) c) ∨ ∃ r, g = barCell (up c r) := by
      intro g u hg
      unfold O₀ at hg
      rw [Pi.add_apply, Finsupp.add_apply] at hg
      rcases Nat.eq_zero_or_pos (owedRecv c Finset.univ g u) with h0 | h0
      · exact Or.inr (sum_tally_pos Finset.univ _ _ (by rw [h0, Nat.zero_add] at hg; exact hg))
      · exact Or.inl (sum_tally_pos Finset.univ _ _ h0)
    refine MayOwe.of_cut (L := L) (lev := lv) 0 (fun p hp => by rw [Finset.mem_singleton.mp hp, L_tc]; exact Finset.mem_singleton_self _)
      (fun g u hg => by rcases key g u hg with ⟨r, rfl⟩ | ⟨r, rfl⟩ <;> exact Finset.mem_singleton_self _)
      (fun p hp => by rw [Finset.mem_singleton.mp hp]; show lvOf (kindOf (.dma q)) ≤ 0; rw [hq]; exact le_refl _)
      (fun g u hg => by rcases key g u hg with ⟨r, rfl⟩ | ⟨r, rfl⟩ <;> (rw [lv_kcell]; exact Nat.succ_pos _))
  · rw [MayWait_zero]; iintro -; iempintro

end Cert.KernelIdeal.Exchange

end
-- ==== Proof.KernelIdeal.Loops.lean ====
/-
# The four loops, each proved once over a list

`records` holds the invariants of all cells of all devices. Each theorem of this module runs one of the program's loops
over any list of distinct numbers, by induction on the list: what one iteration takes and what it leaves is stated per
number, and the loop takes and leaves the conjunction.
-/
module

public import proofs.«01_k».proof.Proof.KernelIdeal.Protocol

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : Dev nD → Vec F S2048x1024 .f32)

/-- A conjunction over one number more. -/
theorem bigSep_peel {r : Fin 31} {S : Finset (Fin 31)} (h : r ∉ S) {Φ : Fin 31 → sProp 𝕄} :
    bigSep (insert r S) Φ = iprop(Φ r ∗ bigSep S Φ) := bigSep_insert h

/-- The invariants of all cells, under the names `K`, and that each cell has reached its round 0. -/
def records (K : Dev nD × Ck → ℕ) : sProp 𝕄 :=
  iprop((bigSep Finset.univ fun ck : Dev nD × Ck => cellInv ER (xRd X) (K ck) (kcell ck))
    ∗ bigSep Finset.univ fun ck : Dev nD × Ck => reached ER (kcell ck) 0)

instance records_persistent (K : Dev nD × Ck → ℕ) : BI.Persistent (records X K) := by unfold records; infer_instance

variable (K : Dev nD × Ck → ℕ)

theorem inv_at (c : Dev nD) (k : Ck) : (records X K : sProp 𝕄) ⊢ cellInv ER (xRd X) (K (c, k)) (kcell (c, k)) := by
  unfold records
  iintro ⟨H, -⟩
  iapply (show (bigSep Finset.univ fun ck : Dev nD × Ck => (cellInv ER (xRd X) (K ck) (kcell ck) : sProp 𝕄)) ⊢ cellInv ER (xRd X) (K (c, k)) (kcell (c, k)) from
    bigSep_elim (Finset.mem_univ (c, k)))
  iexact H
theorem reached_at (c : Dev nD) (k : Ck) : (records X K : sProp 𝕄) ⊢ reached ER (kcell (c, k)) 0 := by
  unfold records
  iintro ⟨-, H⟩
  iapply (show (bigSep Finset.univ fun ck : Dev nD × Ck => (reached ER (kcell ck) 0 : sProp 𝕄)) ⊢ reached ER (kcell (c, k)) 0 from
    bigSep_elim (Finset.mem_univ (c, k)))
  iexact H

variable (c : Dev nD) {α : Type}

/-- Run a program of the kernel on device `c`. -/
abbrev run (p : KProg F α) (Post : α → sProp 𝕄) : sProp 𝕄 :=
  wp frame (wpE (defs₀ (F := F)) 𝒱₀ (c : Thread nD τ) none) Set.univ p Post

/-! ## Signals -/

/-- What the signal to `up c r` takes: its duty, and the slot it hands over. -/
def sigPre (r : Fin 31) : sProp 𝕄 := iprop(dutyTok ER (barCell (up c r)) 0 c ∗ ∃ f, slotPts c (up c r) fullShare f)

/-- The signal loop. -/
theorem signals_run (Q : α → sProp 𝕄) (O : CellTallies nD τ sig Unit) (W : Waits sig Unit) (k : KProg F α) : ∀ S : List (Fin 31), S.Nodup →
    iprop(records X K ∗ bigSep S.toFinset (sigPre (F := F) c) ∗ owes (c : Thread nD τ) (O + owedBar c S.toFinset) W
        ∗ (owes (c : Thread nD τ) O W -∗ run c k Q)) ⊢ run c (signalAll (S.map (up c)) k) Q
  | [], _ => by
    unfold owedBar
    rw [List.toFinset_nil, Finset.sum_empty, add_zero]
    iintro ⟨-, -, HO, Hk⟩
    iapply Hk; iexact HO
  | r :: S, hS => by
    have hr : r ∉ S.toFinset := fun h => (List.nodup_cons.mp hS).1 (List.mem_toFinset.mp h)
    have hO : O + owedBar c (insert r S.toFinset) = (O + owedBar c S.toFinset) + tallyAt (barCell (up c r)) () 1 := by
      unfold owedBar; rw [Finset.sum_insert hr, add_comm (tallyAt (barCell (up c r)) () 1), add_assoc]
    rw [List.toFinset_cons, bigSep_peel hr, hO, List.map_cons]
    unfold signalAll
    simp only [semSignalWord, Prog.lift, Prog.bind_op, Prog.bind_ret]
    iintro ⟨#HR, ⟨Hs, HS⟩, HO, Hk⟩
    unfold sigPre
    icases Hs with ⟨Ht, Hf⟩
    iapply (Rounds.wp_signal 𝒱₀ ER (xRd X) (c : Thread nD τ) none (dst := (up c r : Thread nD τ)) (κ := K (up c r, .inl ()))
        (d := c) (by rw [duties_eq X (up c r) (.inl ())]; exact Finset.mem_erase.mpr ⟨(up_ne c r).symm, Finset.mem_univ _⟩)
        ((amount_eq X (up c r) c (.inl ())).trans (by decide)) () (O + owedBar c S.toFinset) rfl)
      $$ [HO Ht Hf]
    · isplitr; · iapply (inv_at X K (up c r) (.inl ())); iexact HR
      isplitl [HO]; · iexact HO
      isplitl [Ht]; · iexact Ht
      isplitl [Hf]; · rw [payload_eq X (up c r) c (.inl ())]; unfold payOf; iexact Hf
      iapply (reached_at X K (up c r) (.inl ())); iexact HR
    iintro HO
    iapply (signals_run Q O W k S (List.nodup_cons.mp hS).2)
    isplitr; · iexact HR
    isplitl [HS]; · unfold sigPre; iexact HS
    isplitl [HO]; · iexact HO
    iexact Hk

/-! ## Copies -/

/-- What the copy to `dn c r` takes: the share of the own slot it reads, the peer's slot, its two duties. -/
def sendPre (r : Fin 31) : sProp 𝕄 :=
  iprop(slotPts c c (lent (nm r)) (gath X) ∗ (∃ f, slotPts (dn c r) c fullShare f)
    ∗ dutyTok ER (sendCell c (nm r)) 0 c ∗ dutyTok ER (recvCell (dn c r) c) 0 c)
/-- What it leaves: the claim on its own send semaphore. -/
def sendPost (r : Fin 31) : sProp 𝕄 := cred (tallyAt (sendCell c (nm r)) () N)

/-- One copy. -/
theorem send_run (Q : α → sProp 𝕄) (r : Fin 31) (O : CellTallies nD τ sig Unit) (W : Waits sig Unit) (f : (cc0_scratch0 : Ref sig .tc).ty.Contents (Elt F))
    {hsc : (slotM c).view.ref.isScScratch = false} {hsrc : (slotM c).view.WordExact} {hdst : (slotM c).view.WordExact}
    {hsem : DmaTarget.Typed .vmem (.dma (recvS c)) (.remote (Dev.tc (dn c r) : Thread nD τ) (slotM c) (.dma (sendS (nm r))) hsc)}
    (k : PUnit → KProg F α) :
    iprop(cellInv ER (xRd X) (K (c, .inr (.inl (nm r)))) (sendCell c (nm r)) ∗ cellInv ER (xRd X) (K (dn c r, .inr (.inr c))) (recvCell (dn c r) c)
        ∗ slotPts c c (lent (nm r)) (gath X) ∗ slotPts (dn c r) c fullShare f
        ∗ owes (c : Thread nD τ) (O + tallyAt (recvCell (dn c r) c) () N) W
        ∗ dutyTok ER (sendCell c (nm r)) 0 c ∗ reached ER (sendCell c (nm r)) 0
        ∗ dutyTok ER (recvCell (dn c r) c) 0 c ∗ reached ER (recvCell (dn c r) c) 0)
      ⊢ iprop(((cred (tallyAt (sendCell c (nm r)) () N) ∗ owes (c : Thread nD τ) O W) -∗ run c (k ⟨⟩) Q)
          -∗ run c (.op (.enqueueDma (slotM c) (.remote (Dev.tc (dn c r) : Thread nD τ) (slotM c) (.dma (sendS (nm r))) hsc) (.dma (recvS c)) hsrc hdst hsem) k) Q) := by
  unfold slotPts
  exact Rounds.wp_send_pointsTo 𝒱₀ ER (xRd X) (c : Thread nD τ) none (κ₁ := K (c, .inr (.inl (nm r)))) (κ₂ := K (dn c r, .inr (.inr c)))
    (src := slotM c) (dst := slotM c) (c' := (dn c r : Thread nD τ))
    (r₁ := 0) (r₂ := 0) (d₁ := c) (d₂ := c) (fs := gath X) (fd := f) (q := lent (nm r))
    (by rw [duties_eq, duties_send]; exact Finset.mem_singleton_self _)
    (by rw [duties_eq, duties_recv _ _ (dn_ne c r).symm]; exact Finset.mem_singleton_self _)
    () () N rfl (amount_eq X c c _) (amount_eq X (dn c r) c _) O rfl (W := W)
    (by rw [payload_eq]; exact BI.Entails.refl _)
    (by rw [payload_eq]; exact Entails.of_eq (slotPts_congr (F := F) (dn c r) c fullShare _ _ (landed_gath X c f)))

/-- The copy loop. -/
theorem sends_run (Q : α → sProp 𝕄) (O : CellTallies nD τ sig Unit) (W : Waits sig Unit) (k : KProg F α) : ∀ S : List (Fin 31), S.Nodup →
    iprop(records X K ∗ bigSep S.toFinset (sendPre X c) ∗ owes (c : Thread nD τ) (O + owedRecv c S.toFinset) W
        ∗ ((bigSep S.toFinset (sendPost (F := F) c) ∗ owes (c : Thread nD τ) O W) -∗ run c k Q))
      ⊢ run c (sendAll c (S.map fun r => (nm r, dn c r)) k) Q
  | [], _ => by
    unfold owedRecv
    rw [List.toFinset_nil, Finset.sum_empty, add_zero, bigSep_empty, bigSep_empty]
    iintro ⟨-, -, HO, Hk⟩
    iapply Hk
    isplitr; · iempintro
    iexact HO
  | r :: S, hS => by
    have hr : r ∉ S.toFinset := fun h => (List.nodup_cons.mp hS).1 (List.mem_toFinset.mp h)
    have hO : O + owedRecv c (insert r S.toFinset) = (O + owedRecv c S.toFinset) + tallyAt (recvCell (dn c r) c) () N := by
      unfold owedRecv; rw [Finset.sum_insert hr, add_comm (tallyAt (recvCell (dn c r) c) () N), add_assoc]
    rw [List.toFinset_cons, bigSep_peel hr, bigSep_peel hr, hO, List.map_cons]
    unfold sendAll
    iintro ⟨#HR, ⟨Hs, HS⟩, HO, Hk⟩
    ihave Hs := (Entails.of_eq (show sendPre X c r = iprop(slotPts c c (lent (nm r)) (gath X) ∗ (∃ f, slotPts (dn c r) c fullShare f)
      ∗ dutyTok ER (sendCell c (nm r)) 0 c ∗ dutyTok ER (recvCell (dn c r) c) 0 c) from rfl)) $$ Hs
    icases Hs with ⟨Hsrc, ⟨%f, Hdst⟩, Ht, Ht'⟩
    iapply (send_run X K c Q r (O + owedRecv c S.toFinset) W f _) $$ [HO Hsrc Hdst Ht Ht']
    · isplitr; · iapply (inv_at X K c (.inr (.inl (nm r)))); iexact HR
      isplitr; · iapply (inv_at X K (dn c r) (.inr (.inr c))); iexact HR
      isplitl [Hsrc]; · iexact Hsrc
      isplitl [Hdst]; · iexact Hdst
      isplitl [HO]; · iexact HO
      isplitl [Ht]; · iexact Ht
      isplitr; · iapply (reached_at X K c (.inr (.inl (nm r)))); iexact HR
      isplitl [Ht']; · iexact Ht'
      iapply (reached_at X K (dn c r) (.inr (.inr c))); iexact HR
    iintro ⟨Hcr, HO⟩
    iapply (sends_run Q O W k S (List.nodup_cons.mp hS).2)
    isplitr; · iexact HR
    isplitl [HS]; · iexact HS
    isplitl [HO]; · iexact HO
    iintro ⟨HS, HO⟩
    iapply Hk
    isplitl [Hcr HS]
    · isplitl [Hcr]; · unfold sendPost; iexact Hcr
      iexact HS
    iexact HO

/-! ## Waits -/

/-- What a wait for a slot's credit on one of the device's own cells takes, -/
def waitPre (k : Fin 32 ⊕ Fin 32) : sProp 𝕄 := iprop(cred (tallyAt (kcell (c, .inr k)) () N) ∗ atPos ER (kcell (c, .inr k)) 0 ∅ 0)
/-- and what it leaves once its cell is closed: the payload, and the semaphore at zero. -/
def waitPost (d : Dev nD) (k : Fin 32 ⊕ Fin 32) : sProp 𝕄 := iprop(payOf X c d (.inr k) ∗ semVal (kcell (c, .inr k)) 0)

/-- One wait: for a transfer of a slot, paid by device `d`, on a cell of one duty; the cell closed after it. -/
theorem wait_run (Q : α → sProp 𝕄) (κ : Fin 32 ⊕ Fin 32) (d : Dev nD) (hd : dutiesOf c (.inr κ) = {d}) (w : TpuEff nD τ sig (Elt F) Λ₀ Proc.tc PUnit)
    (hw : ∀ R : PUnit → sProp 𝕄, wpE (defs₀ (F := F)) 𝒱₀ (c : Thread nD τ) none Set.univ w R = waitSpec (c : Thread nD τ) Set.univ (osem κ) N R)
    (W : Waits sig Unit) (k : PUnit → KProg F α) :
    iprop(records X K ∗ waitPre c κ ∗ owes (c : Thread nD τ) 0 W
        ∗ ((waitPost X c d κ ∗ ∃ W', owes (c : Thread nD τ) 0 W') -∗ run c (k ⟨⟩) Q)) ⊢ run c (.op w k) Q := by
  unfold waitPre
  iintro ⟨#HR, ⟨Hcr, Hat⟩, HO, Hk⟩
  iapply (Rounds.wp_wait_rest_token 𝒱₀ ER (xRd X) (c : Thread nD τ) none (κ := K (c, .inr κ)) hw (Set.mem_univ _) ()
      (O := 0) (W := W) (R := 0) (m := 0) (T := ∅)
      (by rw [Nat.zero_add]; exact (by rw [expect_eq, hd, Finset.card_singleton, Nat.one_mul]; rfl : N = (xRd X).expect (kcell (c, .inr κ)) 0))) $$ [Hcr HO Hat]
  · isplitr; · iapply (inv_at X K c (.inr κ)); iexact HR
    isplitl [Hcr]; · iexact Hcr
    isplitl [HO]; · iexact HO
    isplitr; · rw [MayWait_zero]; iempintro
    iexact Hat
  iintro ⟨HO, Hat, -, Hpay⟩
  ihave Hp := (Entails.of_eq ((rest_eq X c (.inr κ)).trans (by rw [hd, bigSep_singleton]))) $$ Hpay
  imod (Rounds.cell_close ER (xRd X) (Set.mem_univ (K (c, .inr κ))) (fun h => h) (R := 0 + 1) (duties_later X (kcell (c, .inr κ)))) $$ [Hat] with Hz
  · isplitr; · iapply (inv_at X K c (.inr κ)); iexact HR
    iexact Hat
  iapply Hk
  isplitl [Hp Hz]
  · unfold waitPost
    isplitl [Hp]; · iexact Hp
    iexact Hz
  iexists _; iexact HO

/-- The loop that waits for the peers' slots. -/
theorem recvs_run (Q : α → sProp 𝕄) (k : KProg F α) : ∀ (S : List (Fin 31)) (W : Waits sig Unit), S.Nodup →
    iprop(records X K ∗ bigSep S.toFinset (fun r => waitPre (F := F) c (.inr (xr c r))) ∗ owes (c : Thread nD τ) 0 W
        ∗ ((bigSep S.toFinset (fun r => waitPost X c (xr c r) (.inr (xr c r))) ∗ ∃ W', owes (c : Thread nD τ) 0 W') -∗ run c k Q))
      ⊢ run c (recvAll (S.map (xr c)) k) Q
  | [], W, _ => by
    rw [List.toFinset_nil, bigSep_empty, bigSep_empty]
    iintro ⟨-, -, HO, Hk⟩
    iapply Hk
    isplitr; · iempintro
    iexists W; iexact HO
  | r :: S, W, hS => by
    have hr : r ∉ S.toFinset := fun h => (List.nodup_cons.mp hS).1 (List.mem_toFinset.mp h)
    rw [List.toFinset_cons, bigSep_peel hr, bigSep_peel hr, List.map_cons]
    unfold recvAll
    iintro ⟨#HR, ⟨Hs, HS⟩, HO, Hk⟩
    iapply (wait_run X K c Q (.inr (xr c r)) (xr c r) (duties_recv c (xr c r) (xr_ne c r)) _
      (wpE_waitDma2_eq 𝒱₀ (c : Thread nD τ) none Set.univ (src := slotM (xr c r)) (dst := slotM (xr c r)) (hsrc := (View.wordExact_bits rfl).reshape _ _)
        (hdst := (View.wordExact_bits rfl).reshape _ _)) W)
    isplitr; · iexact HR
    isplitl [Hs]; · iexact Hs
    isplitl [HO]; · iexact HO
    iintro ⟨Hp, ⟨%W', HO⟩⟩
    iapply (recvs_run Q k S W' (List.nodup_cons.mp hS).2)
    isplitr; · iexact HR
    isplitl [HS]; · iexact HS
    isplitl [HO]; · iexact HO
    iintro ⟨HS, HO⟩
    iapply Hk
    isplitl [Hp HS]
    · isplitl [Hp]; · iexact Hp
      iexact HS
    iexact HO

/-- The loop that waits for the device's own copies. -/
theorem drains_run (Q : α → sProp 𝕄) (k : KProg F α) : ∀ (S : List (Fin 31)) (W : Waits sig Unit), S.Nodup →
    iprop(records X K ∗ bigSep S.toFinset (fun r => waitPre (F := F) c (.inl (nm r))) ∗ owes (c : Thread nD τ) 0 W
        ∗ ((bigSep S.toFinset (fun r => waitPost X c c (.inl (nm r))) ∗ ∃ W', owes (c : Thread nD τ) 0 W') -∗ run c k Q))
      ⊢ run c (drainAll c (S.map nm) k) Q
  | [], W, _ => by
    rw [List.toFinset_nil, bigSep_empty, bigSep_empty]
    iintro ⟨-, -, HO, Hk⟩
    iapply Hk
    isplitr; · iempintro
    iexists W; iexact HO
  | r :: S, W, hS => by
    have hr : r ∉ S.toFinset := fun h => (List.nodup_cons.mp hS).1 (List.mem_toFinset.mp h)
    rw [List.toFinset_cons, bigSep_peel hr, bigSep_peel hr, List.map_cons]
    unfold drainAll
    iintro ⟨#HR, ⟨Hs, HS⟩, HO, Hk⟩
    iapply (wait_run X K c Q (.inl (nm r)) c (duties_send c r) _
      (wpE_waitDma2_eq 𝒱₀ (c : Thread nD τ) none Set.univ (src := slotM c) (dst := slotM c) (hsrc := (View.wordExact_bits rfl).reshape _ _)
        (hdst := (View.wordExact_bits rfl).reshape _ _)) W)
    isplitr; · iexact HR
    isplitl [Hs]; · iexact Hs
    isplitl [HO]; · iexact HO
    iintro ⟨Hp, ⟨%W', HO⟩⟩
    iapply (drains_run Q k S W' (List.nodup_cons.mp hS).2)
    isplitr; · iexact HR
    isplitl [HS]; · iexact HS
    isplitl [HO]; · iexact HO
    iintro ⟨HS, HO⟩
    iapply Hk
    isplitl [Hp HS]
    · isplitl [Hp]; · iexact Hp
      iexact HS
    iexact HO

end Cert.KernelIdeal.Exchange

end
-- ==== Proof.KernelIdeal.Body.lean ====
/-
# The kernel's body

From what a device starts with, the body runs to its result, with every semaphore of its own at zero and its exchange
buffer whole again. The loops are `Loops`; here are the two straight stretches, `reduce` and `combine`, and the assembly.
-/
module

public import proofs.«01_k».proof.Proof.KernelIdeal.Loops
public import proofs.«01_k».proof.Proof.Gen.KernelIdeal.Points

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S2048x1024 .f32)

/-! ## The result -/

/-- The first rows of all slots after the exchange, and the second rows. -/
def cols : Vec F S32x1x1024 .f32 := gM.view.readAt (Elt F) colR.toLoadRect (gath X)
def cols' : Vec F S32x1x1024 .f32 := gM.view.readAt (Elt F) colR'.toLoadRect (gath X)

/-- The result every device stores: the maxima of the devices' maxima, and below them the least index that has each. -/
def outAt : (cc0_stg1_0 : Ref sig .tc).ty.Contents (Elt F) := fun (i : S2x1024.Idx) =>
  if (i 0).val = 0 then k0_pay8 (cols X) (ix2 (n0 := 1) (n1 := 1024) 0 (i 1))
  else k0_pay9 (cols X) (cols' X) (ix2 (n0 := 1) (n1 := 1024) 0 (i 1))

/-- A row of the result stored, at an element of the row: the stored value there. -/
theorem out_write (o : Fin 2 → ℕ) (inb : ∀ a, o a + S1x1024.size a ≤ S2x1024.size a)
    (f : (cc0_stg1_0 : Ref sig .tc).ty.Contents (Elt F)) (w : Vec F S1x1024 .f32) (i : S2x1024.Idx) (h : o = ![(i 0).val, 0]) :
    (oM.access (Rect.unit (s := S2x1024) o S1x1024.size inb)).write (Elt F) f w Finset.univ i = w (ix2 (n0 := 1) (n1 := 1024) 0 (i 1)) := by
  have e : (oM.access (Rect.unit (s := S2x1024) o S1x1024.size inb)).emb (ix2 (n0 := 1) (n1 := 1024) 0 (i 1)) = i := by
    funext a
    refine Fin.ext ?_
    show o a + 1 * ((ix2 (n0 := 1) (n1 := 1024) 0 (i 1)) a : ℕ) = (i a : ℕ)
    rw [h]
    fin_cases a
    · show (i 0 : ℕ) + 1 * 0 = (i 0 : ℕ); omega
    · show 0 + 1 * (i 1 : ℕ) = (i 1 : ℕ); omega
  have key := View.write_emb_of_mem (v := oM.access (Rect.unit (s := S2x1024) o S1x1024.size inb)) f w
    (Finset.mem_univ (ix2 (n0 := 1) (n1 := 1024) 0 (i 1)))
  rw [e] at key
  exact key

/-- A row of the result stored, at an element of an earlier row: what was there. -/
theorem out_write_off (o : Fin 2 → ℕ) (inb : ∀ a, o a + S1x1024.size a ≤ S2x1024.size a)
    (f : (cc0_stg1_0 : Ref sig .tc).ty.Contents (Elt F)) (w : Vec F S1x1024 .f32) (i : S2x1024.Idx) (h : (i 0).val < o 0) :
    (oM.access (Rect.unit (s := S2x1024) o S1x1024.size inb)).write (Elt F) f w Finset.univ i = f i := by
  refine View.write_of_not_mem _ _ _ fun hm => ?_
  have e : (oM.access (Rect.unit (s := S2x1024) o S1x1024.size inb)).setOn Finset.univ
      = (Rect.unit (s := S2x1024) o S1x1024.size inb).set := View.set_slice_whole cc0_stg1_0 _
  rw [e] at hm
  exact absurd h (Nat.not_lt.mpr ((Rect.mem_set_unit.mp hm) 0).1)

/-- The two row stores make the result, whatever was there. -/
theorem stores_out (f : (cc0_stg1_0 : Ref sig .tc).ty.Contents (Elt F)) :
    (oM.access outR').write (Elt F) ((oM.access outR).write (Elt F) f (k0_pay8 (cols X)) Finset.univ) (k0_pay9 (cols X) (cols' X)) Finset.univ
      = outAt X := by
  funext i
  have h1 : (i 0 : ℕ) < 2 := (i 0).isLt
  unfold outAt
  by_cases h : (i 0).val = 0
  · rw [if_pos h]
    exact (out_write_off ![1, 0] _ _ _ i (by show (i 0).val < 1; omega)).trans (out_write ![0, 0] _ _ _ i (by rw [h]))
  · rw [if_neg h]
    exact out_write ![1, 0] _ _ _ i (by rw [show (i 0).val = 1 by omega])

/-! ## The straight stretches -/

variable (c : Dev nD) {α : Type}

/-- The rows of a slot are elements of it. -/
theorem row_sub (o : Fin 3 → ℕ) (inb : ∀ a, o a + S1x1x1024.size a ≤ S32x2x1024.size a) (h : o 0 = c.val) :
    (Rect.unit (s := S32x2x1024) o S1x1x1024.size inb).set ⊆ slotSet c := fun i hi => by
  have h0 := (Rect.mem_set_unit.mp hi) 0
  rw [mem_slot]
  have h1 : o 0 ≤ (i 0 : ℕ) := h0.1
  have h2 : (i 0 : ℕ) < o 0 + 1 := h0.2
  exact Fin.ext (show (i 0 : ℕ) = c.val by omega)

theorem loc_sub (r : Rect S32x2x1024) (h : r.set ⊆ slotSet c) : gM.view.setOn r.toLoadRect.set ⊆ slotSet c := fun i hi => by
  obtain ⟨x, hx, rfl⟩ := Finset.mem_map.mp hi
  exact h hx
theorem acc_sub (r : Rect S32x2x1024) (h : r.set ⊆ slotSet c) : (gM.access r).setOn Finset.univ ⊆ slotSet c := by
  rw [show (gM.access r).setOn Finset.univ = r.set from View.set_slice_whole cc0_scratch0 _]; exact h

theorem rowR_sub : (rowR c).set ⊆ slotSet c := row_sub c _ _ (by rw [k0_off1_eq]; rfl)
theorem rowR'_sub : (rowR' c).set ⊆ slotSet c := row_sub c _ _ (by rw [k0_off2_eq]; rfl)

theorem hz : (![0, 0] : Fin 2 → Nat) = fun _ => 0 := funext fun a => by fin_cases a <;> rfl

/-- The reduction of the own block: the slot of device `c` then holds what the exchange will have there. -/
theorem reduce_run (Q : α → sProp 𝕄) (f : (cc0_scratch0 : Ref sig .tc).ty.Contents (Elt F)) (k : KProg F α) :
    iprop((((c : Thread nD τ).loc cc0_stg0_0) ↦{fullShare} X c) ∗ slotPts c c fullShare f
        ∗ (((((c : Thread nD τ).loc cc0_stg0_0) ↦{fullShare} X c) ∗ slotPts c c fullShare (gath X)) -∗ run c k Q))
      ⊢ run c (reduce c k) Q := by
  rw [← slotPts_congr c c fullShare _ (gath X) (stores_gath X c f)]
  unfold reduce slotPts
  iintro ⟨Hx, Hs, Hk⟩
  iapply (wp_load 𝒱₀ (c : Thread nD τ) none Set.univ (m := xM) (Finset.subset_univ _)) $$ Hx; iintro Hx
  rw [show xM.view.readAt (Elt F) xR.toLoadRect (X c) = X c from Memref.readAt_unit_zero (Elt F) cc0_stg0_0 hz _ (X c)]
  iapply (wp_load 𝒱₀ (c : Thread nD τ) none Set.univ (m := gM) (loc_sub c _ (rowR_sub c))) $$ Hs; iintro Hs
  iapply (wp_store 𝒱₀ (c : Thread nD τ) none Set.univ (m := gM) (r := rowR c) (Mk := Finset.univ) (acc_sub c _ (rowR_sub c))) $$ Hs; iintro Hs
  iapply (wp_load 𝒱₀ (c : Thread nD τ) none Set.univ (m := gM) (loc_sub c _ (rowR'_sub c))) $$ Hs; iintro Hs
  iapply (wp_store 𝒱₀ (c : Thread nD τ) none Set.univ (m := gM) (r := rowR' c) (Mk := Finset.univ) (acc_sub c _ (rowR'_sub c))) $$ Hs; iintro Hs
  iapply Hk
  isplitl [Hx]; · iexact Hx
  iexact Hs

/-- The combination: both rows of all slots read at any share, the result stored. -/
theorem combine_run (Q : α → sProp 𝕄) (q : PosShare TreeShare) (g : (cc0_stg1_0 : Ref sig .tc).ty.Contents (Elt F)) (k : KProg F α) :
    iprop((((c : Thread nD τ).loc cc0_scratch0) ↦{q} gath X) ∗ (((c : Thread nD τ).loc cc0_stg1_0) ↦{fullShare} g)
        ∗ (((((c : Thread nD τ).loc cc0_scratch0) ↦{q} gath X) ∗ (((c : Thread nD τ).loc cc0_stg1_0) ↦{fullShare} outAt X)) -∗ run c k Q))
      ⊢ run c (combine k) Q := by
  rw [← stores_out X g]
  unfold combine
  iintro ⟨Hs, Ho, Hk⟩
  iapply (wp_load 𝒱₀ (c : Thread nD τ) none Set.univ (m := gM) (Finset.subset_univ _)) $$ Hs; iintro Hs
  iapply (wp_load 𝒱₀ (c : Thread nD τ) none Set.univ (m := gM) (Finset.subset_univ _)) $$ Hs; iintro Hs
  iapply (wp_load 𝒱₀ (c : Thread nD τ) none Set.univ (m := oM) (Finset.subset_univ _)) $$ Ho; iintro Ho
  iapply (wp_store 𝒱₀ (c : Thread nD τ) none Set.univ (m := oM) (r := outR) (Mk := Finset.univ) (Finset.subset_univ _)) $$ Ho; iintro Ho
  iapply (wp_load 𝒱₀ (c : Thread nD τ) none Set.univ (m := oM) (Finset.subset_univ _)) $$ Ho; iintro Ho
  iapply (wp_store 𝒱₀ (c : Thread nD τ) none Set.univ (m := oM) (r := outR') (Mk := Finset.univ) (Finset.subset_univ _)) $$ Ho; iintro Ho
  iapply Hk
  isplitl [Hs]; · iexact Hs
  iexact Ho

/-! ## What a device starts with, and ends with -/

/-- The ghost state of device `c`: all invariants, its positions in its cells, the tokens of the duties it pays. -/
def ghost (K : Dev nD × Ck → ℕ) : sProp 𝕄 :=
  iprop(records X K ∗ atPos ER (barCell c) 0 ∅ 0 ∗ (bigSep Finset.univ fun k : Fin 32 ⊕ Fin 32 => atPos ER (kcell (c, .inr k)) 0 ∅ 0)
    ∗ (bigSep Finset.univ fun r : Fin 31 => dutyTok ER (barCell (up c r)) 0 c)
    ∗ (bigSep Finset.univ fun r : Fin 31 => dutyTok ER (recvCell (dn c r) c) 0 c)
    ∗ (bigSep Finset.univ fun r : Fin 31 => dutyTok ER (sendCell c (nm r)) 0 c))

/-- With it: the credits of its barrier and of its receive semaphores, and the levels. -/
def start : sProp 𝕄 :=
  iprop((∃ K, ghost X c K) ∗ cred (tallyAt (barCell c) () 31) ∗ (bigSep Finset.univ fun r : Fin 31 => cred (tallyAt (recvCell c (xr c r)) () N)) ∗ levAts L lv)

/-- Before the body: that, and the exchange buffer at any contents. -/
def Φ₀ : sProp 𝕄 := iprop(start X c ∗ ∃ f : (cc0_scratch0 : Ref sig .tc).ty.Contents (Elt F), ((c : Thread nD τ).loc cc0_scratch0) ↦{fullShare} f)
/-- After it: the exchange buffer, the own semaphores and the barrier at zero. -/
def Φ₁ : sProp 𝕄 := iprop((((c : Thread nD τ).loc cc0_scratch0) ↦{fullShare} gath X)
  ∗ (bigSep Finset.univ fun k : Fin 32 ⊕ Fin 32 => semVal (kcell (c, .inr k)) 0) ∗ semVal (barCell c) 0)

/-- A conjunction over all devices: one device, and the 31 others by number. -/
theorem bigSep_at (a : Fin 32) (p : Fin 31 → Fin 32) (hp : ∀ r r', p r = p r' → r = r') (hn : ∀ r, p r ≠ a) (Φ : Fin 32 → sProp 𝕄) :
    bigSep Finset.univ Φ = iprop(Φ a ∗ bigSep Finset.univ fun r => Φ (p r)) := by
  rw [bigSep_univ_at _ a, bigSep_erase_eq a p hp hn]

/-- A conjunction over the own semaphores: the unused send semaphore and the 31 used, the unused receive semaphore and the 31 used. -/
theorem own_split (Φ : Fin 32 ⊕ Fin 32 → sProp 𝕄) : bigSep Finset.univ Φ
    = iprop((Φ (.inl 0) ∗ bigSep Finset.univ fun r => Φ (.inl (nm r))) ∗ (Φ (.inr c) ∗ bigSep Finset.univ fun r => Φ (.inr (xr c r)))) := by
  rw [bigSep_univ_sum, bigSep_at 0 nm nm_inj nm_ne (fun o => Φ (.inl o)), bigSep_at c (xr c) (xr_inj c) (xr_ne c) (fun o => Φ (.inr o))]
  rfl

/-- The received slots: their left halves, and their right halves. -/
theorem got_halves (f : (cc0_scratch0 : Ref sig .tc).ty.Contents (Elt F)) :
    (bigSep Finset.univ fun r : Fin 31 => slotPts c (xr c r) fullShare f : sProp 𝕄)
      = iprop((bigSep Finset.univ fun r : Fin 31 => slotPts c (xr c r) fullShare.left f) ∗ bigSep Finset.univ fun r : Fin 31 => slotPts c (xr c r) fullShare.right f) :=
  (bigSep_congr fun r _ => slot_half c (xr c r) f).trans (bigSep_sep' _ _ _)

/-- What the receive waits give: the received slots in halves, and the counters at zero. -/
theorem got_split : (bigSep Finset.univ fun r : Fin 31 => waitPost X c (xr c r) (.inr (xr c r)) : sProp 𝕄)
    = iprop(((bigSep Finset.univ fun r : Fin 31 => slotPts c (xr c r) fullShare.left (gath X)) ∗ bigSep Finset.univ fun r : Fin 31 => slotPts c (xr c r) fullShare.right (gath X))
      ∗ bigSep Finset.univ fun r : Fin 31 => semVal (kcell (c, .inr (.inr (xr c r)))) 0) := by
  rw [← got_halves, ← bigSep_sep']; rfl
/-- What the send waits give: the lent shares of the own slot, and the counters at zero. -/
theorem back_split : (bigSep Finset.univ fun r : Fin 31 => waitPost X c c (.inl (nm r)) : sProp 𝕄)
    = iprop((bigSep Finset.univ fun r : Fin 31 => slotPts c c (lent (nm r)) (gath X)) ∗ bigSep Finset.univ fun r : Fin 31 => semVal (kcell (c, .inr (.inl (nm r)))) 0) := by
  rw [← bigSep_sep']; rfl

theorem univ_list : (List.finRange 31).toFinset = (Finset.univ : Finset (Fin 31)) := by simp

/-- The staging buffers' contents: `x`, the result. -/
abbrev xPts : sProp 𝕄 := ((c : Thread nD τ).loc cc0_stg0_0) ↦{fullShare} X c
abbrev oPts (g : (cc0_stg1_0 : Ref sig .tc).ty.Contents (Elt F)) : sProp 𝕄 := ((c : Thread nD τ).loc cc0_stg1_0) ↦{fullShare} g

set_option maxHeartbeats 1000000 in
/-- The body: from the starting state to the ending one. -/
theorem body_run (K : Dev nD × Ck → ℕ) (W : Waits sig Unit) (f0 : (cc0_scratch0 : Ref sig .tc).ty.Contents (Elt F))
    (g : (cc0_stg1_0 : Ref sig .tc).ty.Contents (Elt F)) (Q : PUnit → sProp 𝕄) :
    iprop(ghost X c K ∗ cred (tallyAt (barCell c) () 31) ∗ (bigSep Finset.univ fun r : Fin 31 => cred (tallyAt (recvCell c (xr c r)) () N)) ∗ levAts L lv
        ∗ (((c : Thread nD τ).loc cc0_scratch0) ↦{fullShare} f0) ∗ owes (c : Thread nD τ) (O₀ c) W ∗ xPts X c ∗ oPts c g
        ∗ ((Φ₁ X c ∗ (∃ W', owes (c : Thread nD τ) 0 W') ∗ xPts X c ∗ oPts c (outAt X)) -∗ Q ⟨⟩))
      ⊢ run c (cc0_body (F := F) xM (Memref.isWhole_whole _) oM (Memref.isWhole_whole _) gM (Memref.isWhole_whole _) cc0_scratch1 cc0_scratch2) Q := by
  rw [body_eq]
  simp only [run, wp_deviceId]
  unfold ghost O₀
  rw [own_split c (fun k => atPos ER (kcell (c, .inr k)) 0 ∅ 0), slots_eq, bigSep_at c (up c) (up_inj c) (up_ne c)]
  iintro ⟨⟨#HR, HatB, ⟨⟨HatS0, HatS⟩, ⟨HatV0, HatV⟩⟩, HtB, HtV, HtS⟩, HcB, HcV, #Hlev, ⟨Hown, Hslots⟩, HO, Hx, Ho, Hk⟩
  -- the signals
  iapply (signals_run X K c Q (owedRecv c Finset.univ) W _ (List.finRange 31) (List.nodup_finRange 31))
  rw [univ_list]
  isplitr; · iexact HR
  isplitl [HtB Hslots]
  · unfold sigPre
    rw [bigSep_sep']
    isplitl [HtB]; · iexact HtB
    iapply (show (bigSep Finset.univ fun r => slotPts c (up c r) fullShare f0 : sProp 𝕄) ⊢ bigSep Finset.univ fun r => iprop(∃ f, slotPts c (up c r) fullShare f) from
      bigSep_mono fun r _ => show (slotPts c (up c r) fullShare f0 : sProp 𝕄) ⊢ iprop(∃ f, slotPts c (up c r) fullShare f) from by
        iintro H; iexists f0; iexact H)
    iexact Hslots
  isplitl [HO]; · iexact HO
  iintro HO
  -- the own block
  iapply (reduce_run X c Q f0)
  isplitl [Hx]; · iexact Hx
  isplitl [Hown]; · iexact Hown
  iintro ⟨Hx, Hown⟩
  -- the barrier
  simp only [run, semWaitWord, Prog.lift, Prog.bind_op, Prog.bind_ret]
  iapply (Rounds.wp_wait_rest_token 𝒱₀ ER (xRd X) (c : Thread nD τ) none (κ := K (c, .inl ()))
      (wpE_semWait_eq 𝒱₀ (c : Thread nD τ) none Set.univ) (Set.mem_univ _) () (O := owedRecv c Finset.univ) (W := W) (R := 0) (m := 0) (T := ∅)
      (by rw [Nat.zero_add]
          exact (by rw [expect_eq]; unfold dutiesOf amountOf; rw [Finset.card_erase_of_mem (Finset.mem_univ _)]; rfl : 31 = (xRd X).expect (barCell c) 0))) $$ [HcB HO HatB]
  · isplitr; · iapply (inv_at X K c (.inl ())); iexact HR
    isplitl [HcB]; · iexact HcB
    isplitl [HO]; · iexact HO
    isplitr; · iapply (mayWait_bar (F := F) c Finset.univ); iexact Hlev
    iexact HatB
  iintro ⟨HO, HatB, -, Hpay⟩
  ihave Hdst := (Entails.of_eq ((rest_eq X c (.inl ())).trans (bigSep_erase_eq (F := F) c (dn c) (dn_inj c) (dn_ne c) (fun d => payOf X c d (.inl ()))))) $$ Hpay
  imod (Rounds.cell_close ER (xRd X) (Set.mem_univ (K (c, .inl ()))) (fun h => h) (R := 0 + 1) (duties_later X (barCell c))) $$ [HatB] with HzB
  · isplitr; · iapply (inv_at X K c (.inl ())); iexact HR
    iexact HatB
  -- the copies
  ihave Hown := (Entails.of_eq (slot_split c c (gath X))) $$ Hown
  icases Hown with ⟨Hleft, Hl0, Hlent⟩
  iapply (sends_run X K c Q 0 _ _ (List.finRange 31) (List.nodup_finRange 31))
  rw [univ_list, zero_add]
  isplitr; · iexact HR
  isplitl [Hlent Hdst HtS HtV]
  · unfold sendPre
    rw [bigSep_sep', bigSep_sep', bigSep_sep']
    isplitl [Hlent]; · iexact Hlent
    isplitl [Hdst]; · unfold payOf; iexact Hdst
    isplitl [HtS]; · iexact HtS
    iexact HtV
  isplitl [HO]; · iexact HO
  iintro ⟨HcS, HO⟩
  -- the peers' slots arrive
  iapply (recvs_run X K c Q _ (List.finRange 31) _ (List.nodup_finRange 31))
  rw [univ_list]
  isplitr; · iexact HR
  isplitl [HcV HatV]
  · unfold waitPre
    rw [bigSep_sep']
    isplitl [HcV]; · iexact HcV
    iexact HatV
  isplitl [HO]; · iexact HO
  iintro ⟨Hgot, ⟨%W', HO⟩⟩
  ihave Hgot := (Entails.of_eq (got_split X c)) $$ Hgot
  icases Hgot with ⟨⟨HgotL, HgotR⟩, HzV⟩
  -- the combination, at the left halves
  ihave Hall := (Entails.of_eq ((slots_eq c fullShare.left (gath X)).trans (bigSep_at c (xr c) (xr_inj c) (xr_ne c) _)).symm) $$ [Hleft HgotL]
  · isplitl [Hleft]; · iexact Hleft
    iexact HgotL
  iapply (combine_run X c Q fullShare.left g)
  isplitl [Hall]; · iexact Hall
  isplitl [Ho]; · iexact Ho
  iintro ⟨Hall, Ho⟩
  -- the own copies end
  iapply (drains_run X K c Q _ (List.finRange 31) _ (List.nodup_finRange 31))
  rw [univ_list]
  isplitr; · iexact HR
  isplitl [HcS HatS]
  · unfold waitPre sendPost
    rw [bigSep_sep']
    isplitl [HcS]; · iexact HcS
    iexact HatS
  isplitl [HO]; · iexact HO
  iintro ⟨Hback, HO⟩
  ihave Hback := (Entails.of_eq (back_split X c)) $$ Hback
  icases Hback with ⟨Hlent, HzS⟩
  -- the two unused cells
  imod (Rounds.cell_close ER (xRd X) (Set.mem_univ (K (c, .inr (.inl 0)))) (fun h => h) (R := 0) (fun r _ => duties_unused X c (.inl 0) rfl r)) $$ [HatS0] with HzS0
  · isplitr; · iapply (inv_at X K c (.inr (.inl 0))); iexact HR
    iexact HatS0
  imod (Rounds.cell_close ER (xRd X) (Set.mem_univ (K (c, .inr (.inr c)))) (fun h => h) (R := 0) (fun r _ => duties_unused X c (.inr c) (if_pos rfl) r)) $$ [HatV0] with HzV0
  · isplitr; · iapply (inv_at X K c (.inr (.inr c))); iexact HR
    iexact HatV0
  -- the exchange buffer whole again
  ihave Hall := (Entails.of_eq ((slots_eq c fullShare.left (gath X)).trans (bigSep_at c (xr c) (xr_inj c) (xr_ne c) _))) $$ Hall
  icases Hall with ⟨Hleft, HgotL⟩
  rw [wp_ret]; imodintro
  iapply Hk
  unfold Φ₁
  rw [own_split c (fun k => semVal (kcell (c, .inr k)) 0), slots_eq, bigSep_at c (xr c) (xr_inj c) (xr_ne c),
    got_halves, slot_split c c (gath X)]
  isplitl [Hleft Hl0 Hlent HgotL HgotR HzS HzS0 HzV HzV0 HzB]
  · isplitl [Hleft Hl0 Hlent HgotL HgotR]
    · isplitl [Hleft Hl0 Hlent]
      · isplitl [Hleft]; · iexact Hleft
        isplitl [Hl0]; · iexact Hl0
        iexact Hlent
      isplitl [HgotL]; · iexact HgotL
      iexact HgotR
    isplitl [HzS HzS0 HzV HzV0]
    · isplitl [HzS HzS0]
      · isplitl [HzS0]; · iexact HzS0
        iexact HzS
      isplitl [HzV0]; · iexact HzV0
      iexact HzV
    iexact HzB
  isplitl [HO]; · iexact HO
  isplitl [Hx]; · iexact Hx
  iexact Ho

end Cert.KernelIdeal.Exchange

end
-- ==== Proof.KernelIdeal.Run.lean ====
/-
# The run of the program

The body of `Body` put under the launch: every cell's invariant allocated, the duty tokens dealt to the devices that pay,
the credits to those that wait. The run ends with every device's result array at `outAt` of the blocks, the argument
arrays unchanged, and every semaphore at zero.
-/
module

public import proofs.«01_k».proof.Proof.KernelIdeal.Body
public import proofs.«01_k».proof.Proof.Gen.KernelIdeal.Launch
public import Idealize.ShloMosaic.Adequacy
public import Idealize.ShloMosaic.Init
public import Idealize.ShloMosaic.Lib.Pipeline.CollectiveSegs

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data and the body obligation -/

/-- The block of `x` device `c` starts with. -/
def xin (c : Dev nD) : Vec F S2048x1024 .f32 := m ((c : Thread nD τ).loc main_arg0)

/-- Contents, states and dues before and after the one grid point. -/
def dats (_ : Fin 1) (c : Dev nD) : Dat τ (Elt F) Unit ℕ UU ℕ cfg0 c where
  A w := m ((cfg0.win w).arr.view.loc (c : Thread nD τ))
  after w _ := match w with
    | ⟨0, _⟩ => xin m c
    | ⟨1, _⟩ => outAt (xin m)
  Φ t := match t with
    | ⟨0, _⟩ => Φ₀ (xin m) c
    | ⟨_ + 1, _⟩ => Φ₁ (xin m) c
  q _ := fullShare
  owed t := match t with
    | ⟨0, _⟩ => O₀ c
    | ⟨_ + 1, _⟩ => 0

/-- A window's one block is its whole array: `x`'s block read is the array, -/
theorem blk_read (c : Dev nD) (t : Fin cfg0.N) : (win0_0.blk t).view.read (Elt F) (m ((c : Thread nD τ).loc main_arg0)) = xin m c := by
  funext i
  have e : (win0_0.blk t).view.emb i = i := by
    funext a
    refine Fin.ext ?_
    fin_cases a
    · show 0 * 2048 + 1 * (i 0 : ℕ) = (i 0 : ℕ); omega
    · show 0 * 1024 + 1 * (i 1 : ℕ) = (i 1 : ℕ); omega
  exact congrArg (m ((c : Thread nD τ).loc main_arg0)) e
/-- and what the result's block reads is the array. -/
theorem out_read (t : Fin cfg0.N) (f : (main_v1 : Ref sig .tc).ty.Contents (Elt F)) : (win0_1.blk t).view.read (Elt F) f = f := by
  funext i
  have e : (win0_1.blk t).view.emb i = i := by
    funext a
    refine Fin.ext ?_
    fin_cases a
    · show 0 * 2 + 1 * (i 0 : ℕ) = (i 0 : ℕ); omega
    · show 0 * 1024 + 1 * (i 1 : ℕ) = (i 1 : ℕ); omega
  exact congrArg f e

/-- A whole staging buffer held at contents `Y`. -/
theorem owns_whole (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) ((c : Thread nD τ).loc b), ⌜f = Y⌝ ∗ (((c : Thread nD τ).loc b) ↦{fullShare} f)) := by
  unfold owns; simp only [Memref.view_whole, View.read_whole, View.set_whole]

/-- That, as one of the two windows' staging buffers. -/
abbrev held (c : Dev nD) (b : Ref sig .tc) (Y : b.ty.Contents (Elt F)) : sProp 𝕄 :=
  iprop(∃ f : Buf (Elt F) ((c : Thread nD τ).loc b), ⌜f = Y⌝ ∗ (((c : Thread nD τ).loc b) ↦{fullShare} f))

def before (c : Dev nD) : sProp 𝕄 :=
  iprop(Φ₀ (xin m) c ∗ (dats m 0 c).owesAt () t0_0.castSucc
    ∗ (∃ d, held c cc0_stg0_0 ((dats m 0 c).before (0 : Fin 2) t0_0 d)) ∗ (∃ d, held c cc0_stg1_0 ((dats m 0 c).before (1 : Fin 2) t0_0 d)))
def afterwards (c : Dev nD) : sProp 𝕄 :=
  iprop(Φ₁ (xin m) c ∗ (dats m 0 c).owesAt () t0_0.succ ∗ held c cc0_stg0_0 (xin m c) ∗ held c cc0_stg1_0 (outAt (xin m)))

theorem windows (Φ : Fin cfg0.W → sProp 𝕄) : bigSep Finset.univ Φ = iprop(Φ (0 : Fin 2) ∗ Φ (1 : Fin 2)) := bigSep_W0 Φ

set_option maxRecDepth 20000 in
/-- The body, as the pipeline asks for it. -/
theorem body_obligation (c : Dev nD) : BodyObligation (dats (F := F) m 0 c) (defs₀ (F := F)) 𝒱₀ () Set.univ := fun t => by
  rw [fin_N0 t, windows, windows]
  simp only [owns_whole]
  show before m c ⊢ run c (cc0_body (F := F) xM (Memref.isWhole_whole _) oM (Memref.isWhole_whole _) gM (Memref.isWhole_whole _) cc0_scratch1 cc0_scratch2)
    (fun _ => afterwards m c)
  unfold before Φ₀ start Dat.owesAt Pipeline.owesWithin
  iintro ⟨⟨⟨⟨%K, Hg⟩, HcB, HcV, Hlev⟩, ⟨%f0, Hs⟩⟩, ⟨%W, %hW, HO⟩, ⟨%d0, %g0, %hg0, Hx⟩, ⟨%d1, %g1, %hg1, Hout⟩⟩
  have hx : g0 = xin m c := by
    rw [hg0]; unfold Dat.before; rw [if_pos (fetch0_0 t0_0)]; exact blk_read m c t0_0
  subst hx
  iapply (body_run (xin m) c K W f0 g1 (fun _ => afterwards m c))
  isplitl [Hg]; · iexact Hg
  isplitl [HcB]; · iexact HcB
  isplitl [HcV]; · iexact HcV
  isplitl [Hlev]; · iexact Hlev
  isplitl [Hs]; · iexact Hs
  isplitl [HO]; · iexact HO
  isplitl [Hx]; · iexact Hx
  isplitl [Hout]; · iexact Hout
  iintro ⟨HΦ, ⟨%W', HO⟩, Hx, Hout⟩
  unfold afterwards Dat.owesAt Pipeline.owesWithin
  isplitl [HΦ]; · iexact HΦ
  isplitl [HO]
  · iexists W'
    isplitr; · ipureintro; exact fun _ _ => Or.inl trivial
    iexact HO
  isplitl [Hx]
  · iexists (xin m c); isplitr; · (ipureintro; rfl)
    iexact Hx
  iexists (outAt (xin m)); isplitr; · (ipureintro; rfl)
  iexact Hout

/-! ## Cells and tokens at launch -/

set_option maxRecDepth 8000 in
theorem ownSemFacts : Pipeline.OwnSemFacts cfg0.spec osem := by decide +kernel

theorem share_eq (c : Dev nD) (w : Fin cfg0.W) : (dats m 0 c).share w = fullShare := by unfold Dat.share; split <;> rfl

def exCells : Finset (GSem nD τ sig) := Finset.univ.map ⟨kcell, kcell_injective⟩

/-- A device's tokens as minted: of its barrier, of its receive semaphores, of its send semaphores, by number. -/
abbrev TokIx := Fin 31 ⊕ (Fin 31 ⊕ Fin 31)
def tokKind (c : Dev nD) : TokIx → Ck
  | .inl _ => .inl ()
  | .inr (.inl r) => .inr (.inr (up c r))
  | .inr (.inr r) => .inr (.inl (nm r))
/-- Which device pays the token's duty. -/
def tokPayer (c : Dev nD) : TokIx → Dev nD
  | .inl r => dn c r
  | .inr (.inl r) => up c r
  | .inr (.inr _) => c
def tokOf (cj : Dev nD × TokIx) : GSem nD τ sig × ℕ × Dev nD := (kcell (cj.1, tokKind cj.1 cj.2), 0, tokPayer cj.1 cj.2)

theorem tokOf_injective : Function.Injective tokOf := by
  rintro ⟨c, j⟩ ⟨c', j'⟩ h
  have h1 := kcell_injective (congrArg (fun x : GSem nD τ sig × ℕ × Dev nD => x.1) h)
  have hc : c = c' := congrArg Prod.fst h1
  subst hc
  have hk : tokKind c j = tokKind c j' := congrArg Prod.snd h1
  have hp : tokPayer c j = tokPayer c j' := congrArg (fun x : GSem nD τ sig × ℕ × Dev nD => x.2.2) h
  have hj : j = j' := by
    rcases j with r | r | r <;> rcases j' with r' | r' | r'
    · exact congrArg Sum.inl (dn_inj c r r' hp)
    · exact absurd hk (by simp [tokKind])
    · exact absurd hk (by simp [tokKind])
    · exact absurd hk (by simp [tokKind])
    · exact congrArg (fun r => Sum.inr (Sum.inl r)) (up_inj c r r' hp)
    · exact absurd hk (by simp [tokKind])
    · exact absurd hk (by simp [tokKind])
    · exact absurd hk (by simp [tokKind])
    · exact congrArg (fun r => Sum.inr (Sum.inr r)) (nm_inj r r' (Sum.inl.inj (Sum.inr.inj hk)))
  rw [hj]
def exToks : Finset (GSem nD τ sig × ℕ × Dev nD) := Finset.univ.map ⟨tokOf, tokOf_injective⟩

/-- The launch element: the staging cells' and the exchange's. -/
def u₀ : UU :=
  (initOf (Pipeline.cells cfgs cellOf_inj) (Pipeline.launchToks cfgs cellOf_inj), initOf exCells exToks)

/-- The tokens of device `c`'s own cells, -/
def minted (c : Dev nD) : sProp 𝕄 :=
  iprop((bigSep Finset.univ fun r : Fin 31 => dutyTok ER (barCell c) 0 (dn c r))
    ∗ (bigSep Finset.univ fun r : Fin 31 => dutyTok ER (recvCell c (up c r)) 0 (up c r))
    ∗ (bigSep Finset.univ fun r : Fin 31 => dutyTok ER (sendCell c (nm r)) 0 c))
/-- and those of the duties it pays. -/
def paid (c : Dev nD) : sProp 𝕄 :=
  iprop((bigSep Finset.univ fun r : Fin 31 => dutyTok ER (barCell (up c r)) 0 c)
    ∗ (bigSep Finset.univ fun r : Fin 31 => dutyTok ER (recvCell (dn c r) c) 0 c)
    ∗ (bigSep Finset.univ fun r : Fin 31 => dutyTok ER (sendCell c (nm r)) 0 c))

/-- A conjunction over a device's cells: the barrier's, and the own semaphores'. -/
theorem bigSep_kinds (Φ : Ck → sProp 𝕄) :
    bigSep Finset.univ Φ = iprop(Φ (.inl ()) ∗ bigSep Finset.univ fun k : Fin 32 ⊕ Fin 32 => Φ (.inr k)) := by
  rw [bigSep_univ_sum, show (Finset.univ : Finset Unit) = {()} from rfl, bigSep_singleton]
  rfl

/-- The tokens minted at launch, device by device. -/
theorem toks_minted : bigSep exToks (fun x => (dutyTok ER x.1 x.2.1 x.2.2 : sProp 𝕄)) = bigSep Finset.univ fun c : Dev nD => minted c := by
  unfold exToks; rw [bigSep_map, bigSep_univ_prod]
  refine bigSep_congr fun c _ => ?_
  unfold minted
  rw [bigSep_univ_sum, bigSep_univ_sum]
  rfl

/-- Going up by `r` is a permutation of the devices. -/
def upE (r : Fin 31) : Dev nD ≃ Dev nD := ⟨fun c => up c r, fun c => dn c r, fun c => dn_up c r, fun c => up_dn c r⟩

/-- A family over devices and numbers, each number's devices moved up or down by it. -/
theorem bigSep_up (Φ : Dev nD → Fin 31 → sProp 𝕄) :
    (bigSep Finset.univ fun c => bigSep Finset.univ fun r => Φ c r) = bigSep Finset.univ fun c => bigSep Finset.univ fun r => Φ (up c r) r := by
  rw [Idealize.SL.BI.bigSep_univ_comm, bigSep_congr (s := Finset.univ) fun (r : Fin 31) _ => bigSep_univ_equiv (upE r) fun c => Φ c r, Idealize.SL.BI.bigSep_univ_comm]
  rfl
theorem bigSep_dn (Φ : Dev nD → Fin 31 → sProp 𝕄) :
    (bigSep Finset.univ fun c => bigSep Finset.univ fun r => Φ c r) = bigSep Finset.univ fun c => bigSep Finset.univ fun r => Φ (dn c r) r := by
  rw [Idealize.SL.BI.bigSep_univ_comm, bigSep_congr (s := Finset.univ) fun (r : Fin 31) _ => bigSep_univ_equiv (upE r).symm fun c => Φ c r, Idealize.SL.BI.bigSep_univ_comm]
  rfl

/-- The tokens go to the devices that pay. -/
theorem toks_dealt : (bigSep Finset.univ fun c : Dev nD => (minted c : sProp 𝕄)) = bigSep Finset.univ fun c : Dev nD => paid c := by
  unfold minted paid
  rw [bigSep_sep', bigSep_sep', bigSep_sep', bigSep_sep',
    bigSep_up (fun c r => dutyTok ER (barCell c) 0 (dn c r)), bigSep_dn (fun c r => dutyTok ER (recvCell c (up c r)) 0 (up c r))]
  simp only [dn_up, up_dn]

/-! ## What the launch deals, and what the devices make of it together -/

/-- What the launch element deals device `c`. -/
def G (c : Dev nD) : sProp 𝕄 :=
  iprop((bigSep Finset.univ fun k : Ck => roundState ER (xRd (xin m)) (kcell (c, k)) 0)
    ∗ (bigSep Finset.univ fun k : Ck => iprop(atPos ER (kcell (c, k)) 0 ∅ 0 ∗ reached ER (kcell (c, k)) 0)) ∗ minted c)
/-- What device `c` then starts with. -/
def G' (c : Dev nD) : sProp 𝕄 := iprop(∃ K, ghost (xin m) c K)

theorem fund : BI.own (ER (initOf exCells exToks)) ⊢ (|==> bigSep Finset.univ (G m) : sProp 𝕄) := by
  have hC (Φ : GSem nD τ sig → sProp 𝕄) : bigSep exCells Φ = bigSep Finset.univ fun c : Dev nD => bigSep Finset.univ fun k : Ck => Φ (kcell (c, k)) := by
    unfold exCells; rw [bigSep_map, bigSep_univ_prod]; rfl
  iintro H
  imod (Rounds.fund ER (xRd (xin m)) exCells exToks) $$ H with ⟨Hst, Hre, Hat, Htok⟩
  imodintro
  ihave Hst := (Entails.of_eq (hC fun g => roundState ER (xRd (xin m)) g 0)) $$ Hst
  ihave Hat := (Entails.of_eq (hC fun g => atPos ER g 0 ∅ 0)) $$ Hat
  ihave Hre := (Entails.of_eq (hC fun g => reached ER g 0)) $$ Hre
  ihave Htok := (Entails.of_eq (toks_minted (F := F))) $$ Htok
  unfold G; simp only [bigSep_sep']
  isplitl [Hst]; · iexact Hst
  isplitl [Hat Hre]
  · isplitl [Hat]; · iexact Hat
    iexact Hre
  iexact Htok

theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

/-- The own semaphores and the barrier at zero are the device's cells at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Ck => semVal (kcell (c, k)) 0 : sProp 𝕄) := by
  rw [unscopedSems0_eq, bigSep_kinds]
  unfold Pipeline.ownSems0
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (xRd (xin m)) κ (kcell (c, k))))
          ∗ (bigSep Finset.univ fun k => iprop(atPos ER (kcell (c, k)) 0 ∅ 0 ∗ reached ER (kcell (c, k)) 0)) ∗ minted c) := by
  unfold G
  iintro ⟨Hos, Hus, Hst, Hat, Htok⟩
  ihave Hv := (sems0_eq (F := F) c) $$ [Hos Hus]
  · isplitl [Hos]; · iexact Hos
    iexact Hus
  imod (show iprop((bigSep Finset.univ fun k : Ck => semVal (kcell (c, k)) 0) ∗ bigSep Finset.univ fun k : Ck => roundState ER (xRd (xin m)) (kcell (c, k)) 0)
      ⊢ (|={Set.univ}=> bigSep Finset.univ fun k => iprop(∃ κ : ℕ, cellInv ER (xRd (xin m)) κ (kcell (c, k))) : sProp 𝕄) from by
        rw [← bigSep_sep']
        exact (bigSep_mono fun k _ => (Rounds.body_intro ER (xRd (xin m)) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- What stays with device `c`: its positions, and the tokens of the duties it pays. -/
def linear (c : Dev nD) : sProp 𝕄 := iprop((bigSep Finset.univ fun k : Ck => atPos ER (kcell (c, k)) 0 ∅ 0) ∗ paid c)

theorem ghost_intro (K : Dev nD × Ck → ℕ) (c : Dev nD) : iprop(records (xin m) K ∗ linear c) ⊢ G' m c := by
  unfold linear G' ghost paid
  rw [bigSep_kinds]
  iintro ⟨HR, ⟨HaB, Ha⟩, HtB, HtV, HtS⟩
  iexists K
  isplitl [HR]; · iexact HR
  isplitl [HaB]; · iexact HaB
  isplitl [Ha]; · iexact Ha
  isplitl [HtB]; · iexact HtB
  isplitl [HtV]; · iexact HtV
  iexact HtS

/-- A persistent assertion serves every member of a conjunction. -/
theorem serve_all {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k => iprop(∃ κ : ℕ, cellInv ER (xRd (xin m)) κ (kcell (c, k))))
          ∗ (bigSep Finset.univ fun k => iprop(atPos ER (kcell (c, k)) 0 ∅ 0 ∗ reached ER (kcell (c, k)) 0)) ∗ minted c) : sProp 𝕄)
      ⊢ bigSep Finset.univ (G' m) := by
  rw [bigSep_sep', bigSep_sep', ← bigSep_univ_prod (fun ck : Dev nD × Ck => iprop(∃ κ : ℕ, cellInv ER (xRd (xin m)) κ (kcell ck))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun ck : Dev nD × Ck => (reached ER (kcell ck) 0 : sProp 𝕄)), toks_dealt]
  iintro ⟨HI, ⟨Hat, #HR⟩, Htok⟩
  ihave HK := (BI.bigSep_exists_pi Finset.univ (fun (ck : Dev nD × Ck) (κ : ℕ) => (cellInv ER (xRd (xin m)) κ (kcell ck) : sProp 𝕄))) $$ HI
  icases HK with ⟨%K, #HI⟩
  iapply (serve_all (R := records (xin m) K) (ghost_intro m K))
  isplitr
  · unfold records; isplitl; · iexact HI
    iexact HR
  · unfold linear
    rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What a device owes one cell, as a sum over its peers. -/
theorem owedRecv_at (d c : Dev nD) (k : Ck) : owedRecv d Finset.univ (kcell (c, k)) () = ∑ e ∈ Finset.univ.erase d, if c = e ∧ k = .inr (.inr d) then N else 0 := by
  unfold owedRecv
  rw [Finset.sum_apply, Finsupp.finset_sum_apply, ← sum_erase_eq d (dn d) (dn_inj d) (dn_ne d) fun e => if c = e ∧ k = .inr (.inr d) then N else 0]
  refine Finset.sum_congr rfl fun r _ => ?_
  rw [tallyAt_apply]
  refine if_congr ⟨fun h => ?_, fun h => ⟨by rw [h.1, h.2], rfl⟩⟩ rfl rfl
  have := kcell_injective h.1
  exact ⟨congrArg Prod.fst this, congrArg Prod.snd this⟩
theorem owedBar_at (d c : Dev nD) (k : Ck) : owedBar d Finset.univ (kcell (c, k)) () = ∑ e ∈ Finset.univ.erase d, if c = e ∧ k = .inl () then 1 else 0 := by
  unfold owedBar
  rw [Finset.sum_apply, Finsupp.finset_sum_apply, ← sum_erase_eq d (up d) (up_inj d) (up_ne d) fun e => if c = e ∧ k = .inl () then 1 else 0]
  refine Finset.sum_congr rfl fun r _ => ?_
  rw [tallyAt_apply]
  refine if_congr ⟨fun h => ?_, fun h => ⟨by rw [h.1, h.2], rfl⟩⟩ rfl rfl
  have := kcell_injective h.1
  exact ⟨congrArg Prod.fst this, congrArg Prod.snd this⟩

theorem owed_bar (d c : Dev nD) : O₀ d (barCell c) () = if d = c then 0 else 1 := by
  have h1 : owedRecv d Finset.univ (barCell c) () = 0 :=
    (owedRecv_at d c (.inl ())).trans (Finset.sum_eq_zero fun e _ => if_neg fun h => nomatch h.2)
  have h2 : owedBar d Finset.univ (barCell c) () = if d = c then 0 else 1 := by
    refine (owedBar_at d c (.inl ())).trans ?_
    simp only [and_true]
    rw [Finset.sum_ite_eq]
    by_cases h : d = c
    · rw [if_pos h, if_neg (by rw [h]; exact Finset.notMem_erase _ _)]
    · rw [if_neg h, if_pos (Finset.mem_erase.mpr ⟨fun h' => h h'.symm, Finset.mem_univ _⟩)]
  unfold O₀
  rw [Pi.add_apply, Finsupp.add_apply, h1, h2, Nat.zero_add]
theorem owed_recv (d c s : Dev nD) (hs : s ≠ c) : O₀ d (recvCell c s) () = if d = s then N else 0 := by
  have h2 : owedBar d Finset.univ (recvCell c s) () = 0 :=
    (owedBar_at d c (.inr (.inr s))).trans (Finset.sum_eq_zero fun e _ => if_neg fun h => nomatch h.2)
  have h1 : owedRecv d Finset.univ (recvCell c s) () = if d = s then N else 0 := by
    refine (owedRecv_at d c (.inr (.inr s))).trans ?_
    by_cases h : d = s
    · subst h
      simp only [and_true]
      rw [Finset.sum_ite_eq, if_pos (Finset.mem_erase.mpr ⟨hs.symm, Finset.mem_univ _⟩), if_pos trivial]
    · rw [if_neg h]
      exact Finset.sum_eq_zero fun e _ => if_neg fun h' => h (Sum.inr.inj (Sum.inr.inj h'.2)).symm
  unfold O₀
  rw [Pi.add_apply, Finsupp.add_apply, h1, h2, Nat.add_zero]

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel
theorem launch_recv (c s : Dev nD) (hs : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s hs, Finset.sum_ite_eq' Finset.univ s fun _ => N,
    if_pos (Finset.mem_univ _)]

/-- The receive semaphores a device waits on, by number, are distinct. -/
def recvE (c : Dev nD) : Fin 31 ↪ SemLoc sig :=
  ⟨fun r => csem (.inr (.inr (xr c r))), fun r r' h => xr_inj c r r' (Sum.inr.inj (Sum.inr.inj (csem_injective h)))⟩

theorem creds (c : Dev nD) :
    (Pipeline.launchCred O₀ c : sProp 𝕄) ⊢ iprop(cred (tallyAt (barCell c) () 31) ∗ bigSep Finset.univ fun r : Fin 31 => cred (tallyAt (recvCell c (xr c r)) () N)) := by
  have h : (bigSep Finset.univ fun r : Fin 31 => cred (tallyAt (recvCell c (xr c r)) () N) : sProp 𝕄)
      = bigSep (Finset.univ.map (recvE c)) fun sm => cred (tallyOn ((c : Thread nD τ), sm) (launchCredit (Pipeline.owing O₀) 0 ((c : Thread nD τ), sm))) := by
    rw [bigSep_map]
    exact bigSep_congr fun r _ => by rw [← launch_recv c (xr c r) (xr_ne c r)]; rfl
  unfold Pipeline.launchCred
  rw [bigSep_univ_at _ (SemLoc.reg barS), launch_bar, h]
  refine sep_mono_right (bigSep_subset fun sm hsm => ?_)
  obtain ⟨r, -, rfl⟩ := Finset.mem_map.mp hsm
  refine Finset.mem_erase.mpr ⟨fun h' => ?_, Finset.mem_univ _⟩
  exact nomatch csem_injective (show csem (.inr (.inr (xr c r))) = csem (.inl ()) from h')

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start (xin m) c ∗ emp) := by
  iintro ⟨-, Hlev, Hcr, -, HG⟩
  ihave Hc := (creds (F := F) c) $$ Hcr
  icases Hc with ⟨HB, HV⟩
  imodintro
  unfold start G'
  isplitl
  · isplitl [HG]; · iexact HG
    isplitl [HB]; · iexact HB
    isplitl [HV]; · iexact HV
    iexact Hlev
  · iempintro

theorem phi0_intro (c : Dev nD) :
    iprop(start (xin m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ (xin m) c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (xin m) c from rfl, scopedRest0_eq, unscopedSems0_eq]
  unfold Φ₁ Pipeline.ownSems0
  iintro ⟨Hr, Hz, HzB⟩
  isplitl [HzB]; · iexact HzB
  isplitl [Hz]; · iexact Hz
  iexists (gath (xin m)); iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m 0 c).arrAt w cfg0.N

theorem finalA_x (c : Dev nD) : finalA m c (0 : Fin 2) = m ((c : Thread nD τ).loc main_arg0) :=
  (dats (F := F) m 0 c).arrAt_in (0 : Fin 2) rfl _
theorem finalA_out (c : Dev nD) : finalA m c (1 : Fin 2) = outAt (xin m) := by
  rw [← out_read t0_0 (finalA m c (1 : Fin 2))]
  unfold finalA
  rw [show cfg0.N = (t0_0 : Fin cfg0.N).val + 1 from rfl, (dats m 0 c).arrAt_succ (1 : Fin 2) t0_0, if_pos (flush0_1 t0_0)]
  exact View.read_write_univ _ _

set_option maxRecDepth 8000 in
/-- The program on its 32 devices, from any memory with all counters at zero: every execution ends, with every device's
    result array at `outAt` of the devices' blocks, its argument array as it was, and every counter at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_v1) = outAt (xin m)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP]; · iexact HP
      iexact HG)
    (hglob := glob m)
    (hA := fun _ _ => rfl) (hpf := fun _ k => k.elim0)
    (X := start (xin m)) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun r h hs => ⟨fun c => ⟨((h c).1 (0 : Fin 2)).trans (finalA_x m c), ((h c).1 (1 : Fin 2)).trans (finalA_out m c)⟩, sem_eq_zero hs fun c => (h c).2.2⟩)

end Cert.KernelIdeal.Exchange

end
-- ==== Proof.Reference.Run.lean ====
/-
# The reference's run

The reference is a straight line of operations on one device: its run, and its result as a function of the argument.
-/
module

public import proofs.«01_k».proof.Proof.Gen.ReferenceIdeal
public import Idealize.ShloMosaic.Lib.StableHlo.Run

@[expose] public section

noncomputable section

namespace Cert.ReferenceIdeal.Straight

open Cert.ReferenceIdeal Cert.ReferenceIdeal.Facts₀
open Idealize.ShloMosaic Idealize.ShloMosaic.TcCoe Idealize.ShloMosaic.StableHlo Idealize.SL.Sem

variable {F : FTy → Type} [FloatOps F]

/-- The operations of the program, in order. -/
abbrev ops : List (HloOp τ sig (Elt F)) :=
  [ TRef.nullary main_call0.v0 (iotaInDim S65536x1024 32 0),
    TRef.nullary main_call0.cst (constant S_ .f32 0xFF800000#32),
    TRef.nullary main_call0.c (constantI S_ 32 0#32),
    TRef.quaternary (.of main_arg0) main_call0.v0 main_call0.cst main_call0.c main_call0.v1_0
      (fun x y u v j => (Host.argReduce reducer_argmax_f32_i32 x y u v reducesTo_S65536x1024_S1024_d0 h_S_ j).1),
    TRef.quaternary (.of main_arg0) main_call0.v0 main_call0.cst main_call0.c main_call0.v1_1
      (fun x y u v j => (Host.argReduce reducer_argmax_f32_i32 x y u v reducesTo_S65536x1024_S1024_d0 h_S_ j).2),
    unary main_v0 main_v1 (sitofp .f32 : (⟨S1024, .i32⟩ : BufTy).Contents (Elt F) → (⟨S1024, .f32⟩ : BufTy).Contents (Elt F)),
    nullary main_cst (constant S_ .f32 0xFF800000#32),
    binary main_arg0 main_cst main_v2 ((fun x v => Host.reduce FloatOps.maximumf x v reducesTo_S65536x1024_S1024_d0 h_S_) :
      (⟨S65536x1024, .f32⟩ : BufTy).Contents (Elt F) → (⟨S_, .f32⟩ : BufTy).Contents (Elt F) → (⟨S1024, .f32⟩ : BufTy).Contents (Elt F)),
    unary main_v2 main_v3 (broadcastInDim S1x1024 ![1] bcast_S1024_S1x1024_1 : (⟨S1024, .f32⟩ : BufTy).Contents (Elt F) → (⟨S1x1024, .f32⟩ : BufTy).Contents (Elt F)),
    unary main_v1 main_v4 (broadcastInDim S1x1024 ![1] bcast_S1024_S1x1024_1 : (⟨S1024, .f32⟩ : BufTy).Contents (Elt F) → (⟨S1x1024, .f32⟩ : BufTy).Contents (Elt F)),
    binary main_v3 main_v4 main_v5 ((fun a b => concatenate S2x1024 0 [⟨S1x1024, a⟩, ⟨S1x1024, b⟩] concatenates_S1x1024_S1x1024_S2x1024_d0) :
      (⟨S1x1024, .f32⟩ : BufTy).Contents (Elt F) → (⟨S1x1024, .f32⟩ : BufTy).Contents (Elt F) → (⟨S2x1024, .f32⟩ : BufTy).Contents (Elt F)) ]

/-- The program is that line. -/
theorem main_eq (c : Dev nD) : main (F := F) c = seq ops := rfl

/-- The reference's two rows, and its result. -/
def refMax (x : FVec F S65536x1024 .f32) : FVec F S1024 .f32 :=
  Host.reduce FloatOps.maximumf x (constant S_ .f32 0xFF800000#32) reducesTo_S65536x1024_S1024_d0 h_S_
def refArg (x : FVec F S65536x1024 .f32) : FVec F S1024 .f32 :=
  sitofp .f32 (fun j => (Host.argReduce reducer_argmax_f32_i32 x (iotaInDim S65536x1024 32 0) (constant S_ .f32 0xFF800000#32) (constantI S_ 32 0#32)
    reducesTo_S65536x1024_S1024_d0 h_S_ j).2)
def refOut (x : FVec F S65536x1024 .f32) : FVec F S2x1024 .f32 :=
  concatenate S2x1024 0 [⟨S1x1024, broadcastInDim S1x1024 ![1] bcast_S1024_S1x1024_1 (refMax x)⟩,
    ⟨S1x1024, broadcastInDim S1x1024 ![1] bcast_S1024_S1x1024_1 (refArg x)⟩] concatenates_S1x1024_S1x1024_S2x1024_d0

/-- What the operations leave in the result's buffer, and in the argument's. -/
theorem out_eq (V : Valuation τ sig (Elt F)) : after ops V (main_v5 : DevRef τ sig) = refOut (V (main_arg0 : DevRef τ sig)) := by
  after_results
  rfl
theorem arg0_eq (V : Valuation τ sig (Elt F)) : after ops V (main_arg0 : DevRef τ sig) = V (main_arg0 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., quaternary_bufs_sub .., quaternary_bufs_sub .., unary_bufs_sub .., nullary_bufs_sub ..,
    binary_bufs_sub .., unary_bufs_sub .., unary_bufs_sub .., binary_bufs_sub ..⟩

/-- The reference's run: the result at `refOut` of the argument, the argument as it was. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v5) = refOut (m ((c.tc : Thread nD τ).loc main_arg0))
        ∧ r.2.mem ((c.tc : Thread nD τ).loc main_arg0) = m ((c.tc : Thread nD τ).loc main_arg0) :=
  (θ_run defs _ _).mono (fun _ h c => ⟨(h c main_v5).trans (out_eq _), (h c main_arg0).trans (arg0_eq _)⟩)
    (run_seq scopedRefs_eq scopedSems_eq defs main (fun _ => ops) main_eq (fun _ => ops_sub) m ρ)

end Cert.ReferenceIdeal.Straight

end
-- ==== Proof.Value.FirstMax.lean ====
/-
# The first place of a maximum

A column of 65536 extended reals cut into 32 blocks of 2048: the maximum of the blocks' maxima is the column's maximum,
and the least of the blocks' first places of it, counted in the column, is the column's first place of it.
-/
module

public import Idealize.ShloMosaic.Lib.KernelVsHost

@[expose] public section

noncomputable section

namespace Cert.Value

/-- `R` is the first place at which `f` has its largest value. -/
def IsFirstMax {n : ℕ} (f : Fin n → EReal) (R : Fin n) : Prop := ∀ r, f r ≤ f R ∧ (f r = f R → R ≤ r)

/-- The largest value of a block. -/
def top {n : ℕ} (x : Fin n → EReal) : EReal := Finset.univ.fold max ⊥ x

/-- A block's first place of its largest value. -/
def place (x : Fin 2048 → EReal) : ℤ := Finset.univ.fold min 2147483647 fun r => if x r = top x then (r : ℤ) else 2048

/-- The least, over the blocks whose largest value is the largest, of the first place in the block counted in the column. -/
def least (x : Fin 32 → Fin 2048 → EReal) : EReal :=
  Finset.univ.fold min ⊤ fun c => if top (x c) = top (fun d => top (x d)) then (((place (x c) + 2048 * (c : ℕ) : ℤ) : ℝ) : EReal) else ((65536 : ℝ) : EReal)

/-- The largest value is the bound that is attained. -/
theorem top_eq {n : ℕ} {x : Fin n → EReal} {M : EReal} (le : ∀ r, x r ≤ M) (r : Fin n) (h : x r = M) : top x = M :=
  le_antisymm ((Finset.fold_max_le _).2 ⟨bot_le, fun r _ => le r⟩) ((Finset.le_fold_max _).2 (.inr ⟨r, Finset.mem_univ _, h.ge⟩))

/-- The largest value is attained somewhere. -/
theorem top_attained (x : Fin 2048 → EReal) : ∃ r, x r = top x := by
  have bound : ∀ r, x r ≤ top x := fun r => (Finset.le_fold_max _).2 (.inr ⟨r, Finset.mem_univ _, le_rfl⟩)
  rcases (Finset.le_fold_max _).1 (le_refl (top x)) with h | ⟨r, -, h⟩
  · exact ⟨0, le_antisymm (bound 0) (h.trans bot_le)⟩
  · exact ⟨r, le_antisymm (bound r) h⟩

section Blocks

variable {f : Fin 65536 → EReal} {x : Fin 32 → Fin 2048 → EReal} {R : Fin 65536}

/-- The maximum of the blocks' maxima is the column's. -/
theorem top_top (first : IsFirstMax f R) (cut : ∀ (c : Fin 32) (l : Fin 2048), x c l = f ⟨2048 * c.val + l.val, by omega⟩) :
    top (fun c => top (x c)) = f R := by
  refine top_eq (fun c => (Finset.fold_max_le _).2 ⟨bot_le, fun l _ => cut c l ▸ (first _).1⟩) ⟨R.val / 2048, by omega⟩ ?_
  refine top_eq (fun l => cut _ l ▸ (first _).1) ⟨R.val % 2048, by omega⟩ ?_
  rw [cut]
  exact congrArg f (Fin.ext (Nat.div_add_mod R.val 2048))

/-- The least place of the maximum over the blocks is the column's first place of it. -/
theorem least_eq (first : IsFirstMax f R) (cut : ∀ (c : Fin 32) (l : Fin 2048), x c l = f ⟨2048 * c.val + l.val, by omega⟩) :
    least x = (((R.val : ℤ) : ℝ) : EReal) := by
  have whole := top_top first cut
  have block : ∀ c : Fin 32, top (x c) = f R → (R.val : ℤ) ≤ place (x c) + 2048 * (c : ℕ) := fun c h => by
    obtain ⟨r₀, h₀⟩ := top_attained (x c)
    have below : ∀ r, x c r = f R → R.val ≤ 2048 * c.val + r.val := fun r h => (first _).2 ((cut c r).symm.trans h)
    have := below r₀ (h₀.trans h)
    rw [← sub_le_iff_le_add]
    refine (Finset.le_fold_min _).2 ⟨by omega, fun r _ => ?_⟩
    split_ifs with e
    · have := below r (e.trans h)
      omega
    · omega
  unfold least
  rw [whole]
  refine le_antisymm ((Finset.fold_min_le _).2 (.inr ⟨⟨R.val / 2048, by omega⟩, Finset.mem_univ _, ?_⟩))
    ((Finset.le_fold_min _).2 ⟨le_top, fun c _ => ?_⟩)
  · have at_R : x ⟨R.val / 2048, by omega⟩ ⟨R.val % 2048, by omega⟩ = f R := by
      rw [cut]
      exact congrArg f (Fin.ext (Nat.div_add_mod R.val 2048))
    have top_R : top (x ⟨R.val / 2048, by omega⟩) = f R := top_eq (fun l => cut _ l ▸ (first _).1) _ at_R
    have : place (x ⟨R.val / 2048, by omega⟩) ≤ (R.val % 2048 : ℕ) :=
      (Finset.fold_min_le _).2 (.inr ⟨⟨R.val % 2048, by omega⟩, Finset.mem_univ _, by rw [if_pos (at_R.trans top_R.symm)]⟩)
    rw [if_pos top_R]
    have : place (x ⟨R.val / 2048, by omega⟩) + 2048 * ((R.val / 2048 : ℕ) : ℤ) ≤ (R.val : ℤ) := by omega
    exact_mod_cast this
  · split_ifs with h
    · have := block c h
      exact_mod_cast this
    · have : (R.val : ℤ) ≤ 65536 := by omega
      exact_mod_cast this

end Blocks

/-! ## Folds of pairs -/

/-- A pair (value, place) no pair of which `q` is better than: larger, or as large and not later. -/
def Best (p q : EReal × BitVec 32) : Prop := q.1 ≤ p.1 ∧ (q.1 = p.1 → p.2.toNat ≤ q.2.toNat)

theorem Best.refl (p : EReal × BitVec 32) : Best p p := ⟨le_rfl, fun _ => le_rfl⟩

theorem Best.trans {p q r : EReal × BitVec 32} (h : Best p q) (h' : Best q r) : Best p r :=
  ⟨h'.1.trans h.1, fun e => by
    have e' : q.1 = p.1 := le_antisymm h.1 (e ▸ h'.1)
    exact (h.2 e').trans (h'.2 (e.trans e'.symm))⟩

/-- A fold by a choice of the better of two pairs ends at one of the pairs, and no pair is better. -/
theorem foldl_best (choose : EReal × BitVec 32 → EReal × BitVec 32 → EReal × BitVec 32) (P : EReal × BitVec 32 → Prop)
    (spec : ∀ a b, P a → P b → (choose a b = a ∨ choose a b = b) ∧ Best (choose a b) a ∧ Best (choose a b) b)
    (L : List (EReal × BitVec 32)) : ∀ init, P init → (∀ q ∈ L, P q) →
      L.foldl choose init ∈ init :: L ∧ ∀ q ∈ init :: L, Best (L.foldl choose init) q := by
  induction L with
  | nil => exact fun init _ _ => ⟨List.mem_cons_self, fun q h => by rw [List.mem_singleton.1 h]; exact .refl _⟩
  | cons b L ih =>
    intro init hi hL
    obtain ⟨one, ba, bb⟩ := spec init b hi (hL b List.mem_cons_self)
    have hc : P (choose init b) := by rcases one with e | e <;> rw [e]; exacts [hi, hL b List.mem_cons_self]
    obtain ⟨mem, best⟩ := ih (choose init b) hc fun q h => hL q (List.mem_cons_of_mem _ h)
    have top := best _ List.mem_cons_self
    refine ⟨?_, fun q h => ?_⟩
    · rcases List.mem_cons.1 mem with e | h
      · rw [List.foldl_cons, e]
        rcases one with e | e <;> rw [e] <;> simp
      · exact List.mem_cons_of_mem _ (List.mem_cons_of_mem _ h)
    · rcases List.mem_cons.1 h with rfl | h
      · exact top.trans ba
      · rcases List.mem_cons.1 h with rfl | h
        · exact top.trans bb
        · exact best q (List.mem_cons_of_mem _ h)

end Cert.Value

end
-- ==== Proof.Value.Kernel.lean ====
/-
# What the kernel computes, over the extended reals

The reductions of a device's block and the combination of the devices' results, read at a column.
-/
module

public import proofs.«01_k».proof.Proof.KernelIdeal.Body
public import proofs.«01_k».proof.Proof.Value.FirstMax
public import Idealize.ShloMosaic.Lib.Pointwise

@[expose] public section

noncomputable section

namespace Cert.Value

open Cert.KernelIdeal Cert.KernelIdeal.Gen Cert.KernelIdeal.Exchange
open Idealize.ShloMosaic

/-! ## Constants and words -/

theorem bits_bot : Ideal.ofBits .f32 0xFF800000#32 = ⊥ := by simp [Ideal.ofBits, Ideal.ieee]
theorem bits_top : Ideal.ofBits .f32 0x7F800000#32 = ⊤ := by simp [Ideal.ofBits, Ideal.ieee]
theorem bits_rows : Ideal.ofBits .f32 0x47800000#32 = ((65536 : ℝ) : EReal) := by
  simp [Ideal.ofBits, Ideal.ieee, -EReal.coe_mul]; norm_num

/-- The signed minimum of two words, as integers. -/
theorem toInt_minsi (x y : BitVec 32) : (IntOp.minsi x y).toInt = min x.toInt y.toInt := by
  unfold IntOp.minsi
  simp only [BitVec.slt, decide_eq_true_eq]
  split_ifs <;> omega

/-- A fold of the signed minimum, as integers. -/
theorem toInt_fold {n : ℕ} (b : BitVec 32) (g : Fin n → BitVec 32) :
    (Finset.univ.fold IntOp.minsi b g).toInt = Finset.univ.fold min b.toInt fun r => (g r).toInt :=
  (Finset.fold_hom toInt_minsi).symm

theorem toInt_small (n : ℕ) (h : n < 2 ^ 31) : (BitVec.ofNat 32 n).toInt = n := by
  rw [BitVec.toInt_eq_toNat_cond, BitVec.toNat_ofNat]
  omega

/-- A device's number, as the kernel computes it. -/
theorem word_eq (c : Dev nD) : word c = BitVec.ofNat 32 c.val := by
  revert c; decide

/-- A block's first place lies in the block or just behind it. -/
theorem place_bounds (x : Fin 2048 → EReal) : 0 ≤ place x ∧ place x ≤ 2048 := by
  refine ⟨(Finset.le_fold_min _).2 ⟨by omega, fun r _ => by split_ifs <;> omega⟩, (Finset.fold_min_le _).2 (.inr ⟨0, Finset.mem_univ _, ?_⟩)⟩
  split_ifs <;> simp

/-- The place in the column, as a word. -/
theorem toInt_place (p : BitVec 32) (c : ℕ) (hp : 0 ≤ p.toInt ∧ p.toInt ≤ 2048) (hc : c < 32) :
    (IntOp.addi p (Scalar.muli (BitVec.ofNat 32 c) 2048#32)).toInt = p.toInt + 2048 * c := by
  have hm : (Scalar.muli (BitVec.ofNat 32 c) 2048#32).toNat = 2048 * c := by
    show (BitVec.ofNat 32 c * 2048#32).toNat = _
    rw [BitVec.toNat_mul, BitVec.toNat_ofNat, BitVec.toNat_ofNat]
    omega
  show (p + Scalar.muli (BitVec.ofNat 32 c) 2048#32).toInt = _
  rw [BitVec.toInt_eq_toNat_cond, BitVec.toNat_add, hm]
  rw [BitVec.toInt_eq_toNat_cond] at hp ⊢
  split_ifs at hp ⊢ <;> omega

/-! ## The block's two reductions -/

theorem pay1_eq (x : Vec Ideal S2048x1024 .f32) : k0_pay1 x = x := by
  unfold k0_pay1
  funext i
  simp only [pointwise]

/-- The maximum of a column of the block. -/
theorem pay2_apply (x : Vec Ideal S2048x1024 .f32) (k : Fin 1024) : k0_pay2 x (ix1 k) = top fun r : Fin 2048 => x (ix2 r k) := by
  unfold k0_pay2 top
  simp only [pointwise, pay1_eq]
  rw [bits_bot]

theorem pay3_apply (x : Vec Ideal S2048x1024 .f32) (k : Fin 1024) :
    k0_pay3 x (ix3 (n0 := 1) (n1 := 1) (n2 := 1024) 0 0 k) = top fun r : Fin 2048 => x (ix2 r k) := by
  unfold k0_pay3
  simp only [pointwise]
  rw [pay2_apply]

/-- A column's first place of its maximum, as the kernel's word. -/
def placeWord (x : Vec Ideal S2048x1024 .f32) (k : Fin 1024) : BitVec 32 :=
  Finset.univ.fold IntOp.minsi 2147483647#32 fun r : Fin 2048 => if x (ix2 r k) = k0_pay2 x (ix1 k) then BitVec.ofNat 32 r.val else 2048#32

theorem toInt_placeWord (x : Vec Ideal S2048x1024 .f32) (k : Fin 1024) : (placeWord x k).toInt = place fun r => x (ix2 r k) := by
  unfold placeWord place
  rw [toInt_fold, pay2_apply]
  refine congrArg (fun g => Finset.univ.fold min 2147483647 g) (funext fun r => ?_)
  rw [apply_ite BitVec.toInt]
  exact if_congr Iff.rfl (toInt_small _ (by omega)) rfl

/-- The first place of the maximum of a column of block `c`, counted in the whole column. -/
theorem pay4_apply (c : Dev nD) (x : Vec Ideal S2048x1024 .f32) (k : Fin 1024) :
    k0_pay4 (word c) x (ix1 k) = (((place (fun r => x (ix2 r k)) + 2048 * (c : ℕ) : ℤ) : ℝ) : EReal) := by
  have e : k0_pay4 (word c) x (ix1 k)
      = (((IntOp.addi (placeWord x k) (Scalar.muli (BitVec.ofNat 32 c.val) 2048#32)).toInt : ℝ) : EReal) := by
    unfold k0_pay4
    simp only [pointwise, pay1_eq, word_eq]
    refine congrArg (fun p => (((IntOp.addi p (Scalar.muli (BitVec.ofNat 32 c.val) 2048#32)).toInt : ℝ) : EReal)) ?_
    refine congrArg (fun g => Finset.univ.fold IntOp.minsi 2147483647#32 g) (funext fun r => if_congr Iff.rfl ?_ rfl)
    simp
  have h := place_bounds fun r => x (ix2 r k)
  rw [← toInt_placeWord] at h
  rw [e, toInt_place _ c.val h c.isLt, toInt_placeWord]

theorem pay5_apply (v : FVec Ideal S1024 .f32) (k : Fin 1024) :
    k0_pay5 v (ix3 (n0 := 1) (n1 := 1) (n2 := 1024) 0 0 k) = v (ix1 k) := by
  unfold k0_pay5
  simp only [pointwise]

/-! ## The combination -/

theorem pay6_apply (y : Vec Ideal S32x1x1024 .f32) (c : Fin 32) (k : Fin 1024) : k0_pay6 y (ix2 c k) = y (ix3 c 0 k) := by
  unfold k0_pay6
  simp only [pointwise]

theorem pay7_apply (y : Vec Ideal S32x1x1024 .f32) (k : Fin 1024) : k0_pay7 y (ix1 k) = top fun c : Fin 32 => y (ix3 c 0 k) := by
  unfold k0_pay7 top
  simp only [pointwise, pay6_apply]
  rw [bits_bot]

theorem pay8_apply (y : Vec Ideal S32x1x1024 .f32) (k : Fin 1024) :
    k0_pay8 y (ix2 (n0 := 1) (n1 := 1024) 0 k) = top fun c : Fin 32 => y (ix3 c 0 k) := by
  unfold k0_pay8
  simp only [pointwise]
  rw [pay7_apply]

/-- The least of the second rows' entries over the slots whose first row has the largest. -/
theorem pay9_apply (y z : Vec Ideal S32x1x1024 .f32) (k : Fin 1024) :
    k0_pay9 y z (ix2 (n0 := 1) (n1 := 1024) 0 k)
      = Finset.univ.fold min ⊤ fun c : Fin 32 => if y (ix3 c 0 k) = top (fun d : Fin 32 => y (ix3 d 0 k)) then z (ix3 c 0 k) else ((65536 : ℝ) : EReal) := by
  unfold k0_pay9
  simp only [pointwise, bits_top, bits_rows]
  refine congrArg (fun g => Finset.univ.fold min ⊤ g) (funext fun c => if_congr ?_ rfl rfl)
  exact iff_of_eq (congrArg₂ _ (pay6_apply y c k) (pay7_apply y k))

/-! ## The result -/

section Result

variable (X : Dev nD → Vec Ideal S2048x1024 .f32)

/-- Column `k` of the devices' blocks. -/
def column (k : Fin 1024) (c : Fin 32) (r : Fin 2048) : EReal := X c (ix2 r k)

theorem gath_top (c : Fin 32) (k : Fin 1024) :
    gath X (ix3 (n0 := 32) (n1 := 2) (n2 := 1024) c 0 k) = k0_pay3 (X c) (ix3 (n0 := 1) (n1 := 1) (n2 := 1024) 0 0 k) := if_pos rfl
theorem gath_place (c : Fin 32) (k : Fin 1024) :
    gath X (ix3 (n0 := 32) (n1 := 2) (n2 := 1024) c 1 k)
      = k0_pay5 (k0_pay4 (word c) (X c)) (ix3 (n0 := 1) (n1 := 1) (n2 := 1024) 0 0 k) := if_neg Nat.one_ne_zero

/-- Where the slots' row `p` reads. -/
theorem emb_row (p : Fin 2) (o : Fin 3 → ℕ) (inb : ∀ a, o a + S32x1x1024.size a ≤ S32x2x1024.size a) (h : o = ![0, p.val, 0])
    (c : Fin 32) (k : Fin 1024) :
    gM.view.emb ((Rect.unit (s := S32x2x1024) o S32x1x1024.size inb).toLoadRect.idx (ix3 (n0 := 32) (n1 := 1) (n2 := 1024) c 0 k))
      = ix3 (n0 := 32) (n1 := 2) (n2 := 1024) c p k := by
  funext a
  refine Fin.ext ?_
  show o a + 1 * ((ix3 (n0 := 32) (n1 := 1) (n2 := 1024) c 0 k) a : ℕ) = (ix3 (n0 := 32) (n1 := 2) (n2 := 1024) c p k a : ℕ)
  rw [h]
  fin_cases a
  · show 0 + 1 * c.val = c.val; omega
  · show p.val + 1 * 0 = p.val; omega
  · show 0 + 1 * k.val = k.val; omega

theorem read_row (f : (cc0_scratch0 : Ref sig .tc).ty.Contents (Elt Ideal)) (p : Fin 2) (o : Fin 3 → ℕ)
    (inb : ∀ a, o a + S32x1x1024.size a ≤ S32x2x1024.size a) (h : o = ![0, p.val, 0]) (c : Fin 32) (k : Fin 1024) :
    gM.view.readAt (Elt Ideal) (Rect.unit (s := S32x2x1024) o S32x1x1024.size inb).toLoadRect f (ix3 (n0 := 32) (n1 := 1) (n2 := 1024) c 0 k)
      = f (ix3 (n0 := 32) (n1 := 2) (n2 := 1024) c p k) :=
  congrArg f (emb_row p o inb h c k)

/-- The slots' first row after the exchange: the devices' maxima. -/
theorem cols_apply (c : Fin 32) (k : Fin 1024) : cols X (ix3 (n0 := 32) (n1 := 1) (n2 := 1024) c 0 k) = top (column X k c) := by
  rw [cols, read_row (gath X) 0 ![0, 0, 0] inb_S32x2x1024_S32x1x1024_0_0_0 rfl c k, gath_top, pay3_apply]
  rfl

/-- The slots' second row after the exchange: the devices' places. -/
theorem cols'_apply (c : Fin 32) (k : Fin 1024) :
    cols' X (ix3 (n0 := 32) (n1 := 1) (n2 := 1024) c 0 k) = (((place (column X k c) + 2048 * (c : ℕ) : ℤ) : ℝ) : EReal) := by
  rw [cols', read_row (gath X) 1 ![0, 1, 0] inb_S32x2x1024_S32x1x1024_0_1_0 rfl c k, gath_place, pay5_apply, pay4_apply]
  rfl

/-- Row 0 of the result: the maximum of the maxima. -/
theorem outAt_top (k : Fin 1024) : outAt X (ix2 (n0 := 2) (n1 := 1024) 0 k) = top fun c => top (column X k c) :=
  (pay8_apply (cols X) k).trans (congrArg top (funext fun c => cols_apply X c k))

/-- Row 1 of the result: the least place. -/
theorem outAt_least (k : Fin 1024) : outAt X (ix2 (n0 := 2) (n1 := 1024) 1 k) = least (column X k) := by
  refine (pay9_apply (cols X) (cols' X) k).trans ?_
  simp only [cols_apply, cols'_apply]
  rfl

end Result

end Cert.Value

end
-- ==== Proof.Value.Reference.lean ====
/-
# What the reference computes, over the extended reals

At a column: the maximum, and the first row that has it.
-/
module

public import proofs.«01_k».proof.Proof.Reference.Run
public import proofs.«01_k».proof.Proof.Value.FirstMax
public import Idealize.ShloMosaic.Lib.Pointwise
public import Idealize.ShloMosaic.Lib.Pipeline.Value

@[expose] public section

noncomputable section

namespace Cert.Value

open Cert.ReferenceIdeal Cert.ReferenceIdeal.Straight Cert.ReferenceIdeal.Facts₀
open Idealize.ShloMosaic

/-! ## The reducer -/

/-- The reducer, by cases: the first pair if it is larger, or as large with the smaller index; else the second. -/
theorem reducer_eq (a b : EReal × BitVec 32) :
    reducer_argmax_f32_i32 (F := Ideal) a b = if b.1 < a.1 ∨ (a.1 = b.1 ∧ a.2.slt b.2 = true) then a else b := by
  have une : FloatOps.cmpf (F := Ideal) (φ := .f32) .une a.1 a.1 = 0#1 := by
    show Ideal.cmp .une a.1 a.1 = 0#1
    simp [Ideal.cmp]
  have ogt : FloatOps.cmpf (F := Ideal) (φ := .f32) .ogt a.1 b.1 = BitVec.ofBool (decide (b.1 < a.1)) := rfl
  have oeq : FloatOps.cmpf (F := Ideal) (φ := .f32) .oeq a.1 b.1 = BitVec.ofBool (decide (a.1 = b.1)) := rfl
  unfold reducer_argmax_f32_i32
  simp only [une, ogt, oeq, IntOp.cmpi, IntOp.ori, IntOp.andi, Scalar.select]
  obtain ⟨a1, a2⟩ := a
  obtain ⟨b1, b2⟩ := b
  dsimp only
  have one : ∀ z : BitVec 1, 1#1 ||| z = 1#1 := by decide
  by_cases h1 : b1 < a1
  · simp [h1, one]
  · by_cases h2 : a1 = b1
    · subst h2
      by_cases h3 : a2.slt b2 = true <;> simp [h3]
    · simp [h1, h2]

/-- The signed order of small words is the order of their values. -/
theorem slt_small (x y : BitVec 32) (hx : x.toNat < 65536) (hy : y.toNat < 65536) : x.slt y = true ↔ x.toNat < y.toNat := by
  simp only [BitVec.slt, BitVec.toInt_eq_toNat_cond, decide_eq_true_eq]
  split_ifs <;> omega

/-- The reducer takes one of the two pairs, and neither is better than it. -/
theorem reducer_spec (a b : EReal × BitVec 32) (ha : a.2.toNat < 65536) (hb : b.2.toNat < 65536) :
    (reducer_argmax_f32_i32 (F := Ideal) a b = a ∨ reducer_argmax_f32_i32 (F := Ideal) a b = b)
      ∧ Best (reducer_argmax_f32_i32 (F := Ideal) a b) a ∧ Best (reducer_argmax_f32_i32 (F := Ideal) a b) b := by
  rw [reducer_eq]
  split_ifs with h
  · refine ⟨.inl rfl, .refl a, ?_⟩
    rcases h with h | ⟨h, h'⟩
    · exact ⟨h.le, fun e => absurd e h.ne⟩
    · exact ⟨h.ge, fun _ => ((slt_small _ _ ha hb).1 h').le⟩
  · rw [not_or, not_lt, not_and, slt_small _ _ ha hb, not_lt] at h
    exact ⟨.inr rfl, ⟨h.1, h.2⟩, .refl b⟩

/-! ## The column's fold -/

/-- The indices of a column. -/
theorem drop_iff (i : S65536x1024.Idx) (k : Fin 1024) :
    (reducesTo_S65536x1024_S1024_d0 : S65536x1024.ReducesTo [0] S1024).drop i = ix1 k ↔ ∃ r : Fin 65536, i = ix2 r k := by
  have hd := (reducesTo_S65536x1024_S1024_d0 : S65536x1024.ReducesTo [0] S1024).drop_apply_val_of_eq i 0 1
  constructor
  · intro h
    refine ⟨i 0, funext fun a => ?_⟩
    fin_cases a
    · rfl
    · exact Fin.ext (hd.symm.trans (congrArg (fun f : S1024.Idx => (f 0 : ℕ)) h))
  · rintro ⟨r, rfl⟩
    refine funext fun a => ?_
    fin_cases a
    exact Fin.ext hd

/-- The pairs folded at a column: the entries of the column with their rows. -/
theorem mem_fiber (x : FVec Ideal S65536x1024 .f32) (k : Fin 1024) (q : EReal × BitVec 32) :
    q ∈ Host.argReduceFiber x (iotaInDim S65536x1024 32 0) reducesTo_S65536x1024_S1024_d0 (ix1 k)
      ↔ ∃ r : Fin 65536, q = (x (ix2 r k), BitVec.ofNat 32 r.val) := by
  unfold Host.argReduceFiber
  rw [List.mem_map]
  constructor
  · rintro ⟨n, hn, rfl⟩
    obtain ⟨r, hr⟩ := (drop_iff _ k).1 (of_decide_eq_true (List.mem_filter.1 hn).2)
    exact ⟨r, by rw [hr]; rfl⟩
  · rintro ⟨r, rfl⟩
    refine ⟨S65536x1024.rowMajor (ix2 r k), List.mem_filter.2 ⟨List.mem_finRange _, decide_eq_true ?_⟩, ?_⟩
    · rw [Equiv.symm_apply_apply]
      exact (drop_iff _ k).2 ⟨r, rfl⟩
    · rw [Equiv.symm_apply_apply]
      rfl

/-- Column `k` of the array. -/
def whole (x : FVec Ideal S65536x1024 .f32) (k : Fin 1024) (r : Fin 65536) : EReal := x (ix2 r k)

theorem toNat_row (r : Fin 65536) : (BitVec.ofNat 32 r.val).toNat = r.val := by
  rw [BitVec.toNat_ofNat]; omega

/-- The reference's index row has the first row of the column's maximum. -/
theorem refArg_apply (x : FVec Ideal S65536x1024 .f32) (k : Fin 1024) :
    ∃ R : Fin 65536, IsFirstMax (whole x k) R ∧ refArg x (ix1 k) = (((R.val : ℤ) : ℝ) : EReal) := by
  have hinit : (Ideal.ofBits .f32 0xFF800000#32 : EReal) = ⊥ := by simp [Ideal.ofBits, Ideal.ieee]
  obtain ⟨mem, best⟩ := foldl_best (reducer_argmax_f32_i32 (F := Ideal)) (fun q => q.2.toNat < 65536) reducer_spec
    (Host.argReduceFiber x (iotaInDim S65536x1024 32 0) reducesTo_S65536x1024_S1024_d0 (ix1 k)) (⊥, 0#32) (by decide)
    fun q hq => by
      obtain ⟨r, rfl⟩ := (mem_fiber x k q).1 hq
      exact (toNat_row r).trans_lt r.isLt
  have value : refArg x (ix1 k) = (((Host.argReduceFiber x (iotaInDim S65536x1024 32 0) reducesTo_S65536x1024_S1024_d0 (ix1 k)).foldl
      (reducer_argmax_f32_i32 (F := Ideal)) (⊥, 0#32)).2.toInt : ℝ) := by
    unfold refArg
    rw [Ideal.argReduce_eq_reduce2, ← hinit]
    exact congrArg (fun p : EReal × BitVec 32 => ((p.2.toInt : ℝ) : EReal)) (Host.reduce2_eq_foldl_fiber _ _ _ _ _ _ _ (ix1 k))
  rw [value]
  generalize (Host.argReduceFiber x (iotaInDim S65536x1024 32 0) reducesTo_S65536x1024_S1024_d0 (ix1 k)).foldl
    (reducer_argmax_f32_i32 (F := Ideal)) (⊥, 0#32) = p at mem best
  have entry : ∀ r : Fin 65536, Best p (whole x k r, BitVec.ofNat 32 r.val) := fun r =>
    best _ (List.mem_cons_of_mem _ ((mem_fiber x k _).2 ⟨r, rfl⟩))
  have at_row : ∃ R : Fin 65536, p = (whole x k R, BitVec.ofNat 32 R.val) := by
    rcases List.mem_cons.1 mem with rfl | h
    · refine ⟨0, Prod.ext ?_ rfl⟩
      exact (le_antisymm (entry 0).1 bot_le).symm
    · exact (mem_fiber x k p).1 h
  obtain ⟨R, rfl⟩ := at_row
  refine ⟨R, fun r => ⟨(entry r).1, fun e => ?_⟩, ?_⟩
  · have := (entry r).2 e
    rw [toNat_row, toNat_row] at this
    exact this
  · refine congrArg (fun z : ℤ => ((z : ℝ) : EReal)) ?_
    rw [BitVec.toInt_eq_toNat_cond, toNat_row]
    omega

/-- The reference's value row has the column's maximum. -/
theorem refMax_apply (x : FVec Ideal S65536x1024 .f32) (k : Fin 1024) : refMax x (ix1 k) = top (whole x k) := by
  have hinit : Ideal.ofBits .f32 0xFF800000#32 = ⊥ := by simp [Ideal.ofBits, Ideal.ieee]
  unfold refMax top whole
  simp only [pointwise]
  rw [hinit]

/-! ## The result's two rows -/

theorem row_apply (v : FVec Ideal S1024 .f32) (k : Fin 1024) :
    broadcastInDim S1x1024 ![1] bcast_S1024_S1x1024_1 v (ix2 (n0 := 1) (n1 := 1024) 0 k) = v (ix1 k) := by
  simp only [pointwise]
  rfl

theorem refOut_0 (x : FVec Ideal S65536x1024 .f32) (k : Fin 1024) : refOut x (ix2 (n0 := 2) (n1 := 1024) 0 k) = refMax x (ix1 k) := by
  unfold refOut
  rw [concatenate_pair_apply_left (t := S2x1024) (s₁ := S1x1024) (s₂ := S1x1024) 0 _ _ _ (ix2 (n0 := 2) (n1 := 1024) 0 k) rfl
    (ix2 (n0 := 1) (n1 := 1024) 0 k) (fun b => by fin_cases b <;> rfl)]
  exact row_apply _ k

theorem refOut_1 (x : FVec Ideal S65536x1024 .f32) (k : Fin 1024) : refOut x (ix2 (n0 := 2) (n1 := 1024) 1 k) = refArg x (ix1 k) := by
  unfold refOut
  rw [concatenate_pair_apply_right (t := S2x1024) (s₁ := S1x1024) (s₂ := S1x1024) 0 _ _ _ (ix2 (n0 := 2) (n1 := 1024) 1 k) rfl rfl
    (ix2 (n0 := 1) (n1 := 1024) 0 k) (fun b h => by fin_cases b <;> first | rfl | exact absurd rfl h) rfl]
  exact row_apply _ k

end Cert.Value

end
-- ==== Proof.Value.Equal.lean ====
/-
# Kernel and reference agree over the extended reals
-/
module

public import proofs.«01_k».proof.Proof.Value.Kernel
public import proofs.«01_k».proof.Proof.Value.Reference
public import Idealize.ShloMosaic.Lib.Layout

@[expose] public section

noncomputable section

namespace Cert.Value

open Idealize.ShloMosaic

/-- Where block `c`'s entry `(l, k)` is in the whole array. -/
theorem block_apply (x : FVec Ideal ⟨2, ![65536, 1024]⟩ .f32) (c : Fin 32) (l : Fin 2048) (k : Fin 1024) :
    (Layout.block ⟨2, ![2048, 1024]⟩ ⟨2, ![65536, 1024]⟩ 0 32 c x : (⟨2, ![2048, 1024]⟩ : Shape).Idx → Ideal .f32) (ix2 (n0 := 2048) (n1 := 1024) l k)
      = x (ix2 (n0 := 65536) (n1 := 1024) ⟨2048 * c.val + l.val, by omega⟩ k) := by
  rw [Layout.block_apply]
  refine congrArg x (funext fun a => Fin.ext ?_)
  rw [Layout.Tiles.idx_val]
  fin_cases a
  · show c.val * 2048 + l.val = 2048 * c.val + l.val; omega
  · rfl

/-- When the devices hold the blocks of `x`, every device's result is the reference's on `x`. -/
theorem out_eq (X : Dev Cert.KernelIdeal.nD → Vec Ideal Cert.KernelIdeal.S2048x1024 .f32) (x : FVec Ideal Cert.ReferenceIdeal.S65536x1024 .f32)
    (h : ∀ c, X c = Layout.block ⟨2, ![2048, 1024]⟩ ⟨2, ![65536, 1024]⟩ 0 32 c x) :
    Cert.KernelIdeal.Exchange.outAt X = Cert.ReferenceIdeal.Straight.refOut x := by
  have cut : ∀ (k : Fin 1024) (c : Fin 32) (l : Fin 2048), column X k c l = whole x k ⟨2048 * c.val + l.val, by omega⟩ := fun k c l =>
    (congrFun (h c) _).trans (block_apply x c l k)
  funext i
  have row : ∀ (p : Fin 2) (k : Fin 1024), Cert.KernelIdeal.Exchange.outAt X (ix2 (n0 := 2) (n1 := 1024) p k)
      = Cert.ReferenceIdeal.Straight.refOut x (ix2 (n0 := 2) (n1 := 1024) p k) := fun p k => by
    obtain ⟨R, first, arg⟩ := refArg_apply x k
    obtain rfl | rfl : p = 0 ∨ p = 1 := by omega
    · rw [outAt_top, refOut_0, refMax_apply, top_top first (cut k)]
      exact (top_eq (fun r => (first r).1) R rfl).symm
    · rw [outAt_least, refOut_1, arg, least_eq first (cut k)]
  have e : i = ix2 (n0 := 2) (n1 := 1024) (i 0) (i 1) := funext fun a => by fin_cases a <;> rfl
  exact (congrArg _ e).trans ((row (i 0) (i 1)).trans (congrArg _ e).symm)

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Kernel.Run
public import proofs.«01_k».proof.Proof.KernelIdeal.Run
public import proofs.«01_k».proof.Proof.Reference.Run
public import proofs.«01_k».proof.Proof.Value.Equal
public import Idealize.ShloMosaic.Adequacy
public import Idealize.ShloMosaic.Init

@[expose] public section

noncomputable section

namespace Cert.Proof

open Idealize.ShloMosaic Idealize.SL.Sem Cert.Kernel

/-- Every run of the program ends with its argument unchanged and every counter at zero. -/
theorem frame_Kernel : Cert.quiescent_Kernel := fun m ρ _ =>
  (θ_run Cert.Kernel.defs _ _).mono (fun _ h => ⟨fun c => (h.1 c).1, h.2⟩) (Cert.Kernel.Exchange.run_main (F := Bits) m ρ)

/-- The same of the program read over the extended reals. -/
theorem frame_KernelIdeal : Cert.quiescent_KernelIdeal := fun m ρ _ =>
  (θ_run Cert.KernelIdeal.defs _ _).mono (fun _ h => ⟨fun c => (h.1 c).1, h.2⟩) (Cert.KernelIdeal.Exchange.run_main (F := Ideal) m ρ)

/-- The same of the reference, which has no counter at all. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Straight.run_main (F := Ideal) m ρ)

/-- When every device holds its block of the reference's argument, all end with the reference's result. -/
theorem same_result : Cert.algebraic_KernelIdeal_ReferenceIdeal := fun m ρ m' ρ' _ agree =>
  ⟨Cert.ReferenceIdeal.Straight.refOut (F := Ideal) (m' (((0 : Dev Cert.ReferenceIdeal.nD).tc : Thread Cert.ReferenceIdeal.nD Cert.ReferenceIdeal.τ).loc
      Cert.ReferenceIdeal.main_arg0)),
    (θ_run Cert.KernelIdeal.defs _ _).mono (fun _ h c => ⟨(h.1 c).2.trans (Cert.Value.out_eq _ _ agree), (h.1 c).1⟩)
      (Cert.KernelIdeal.Exchange.run_main (F := Ideal) m ρ),
    (θ_run Cert.ReferenceIdeal.defs _ _).mono (fun _ h => h 0) (Cert.ReferenceIdeal.Straight.run_main (F := Ideal) m' ρ')⟩

theorem claim : Cert.Claim := ⟨Cert.Kernel.Gen.facts, Cert.KernelIdeal.Gen.facts, Cert.ReferenceIdeal.Gen.facts,
  frame_Kernel, frame_KernelIdeal, frame_ReferenceIdeal, trivial, same_result⟩

end Cert.Proof

end
